-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x128x4x64 .f32 := (extf .f32 · bitsLt_bf16_f32) main_arg2
  let main_v9 : FVec F S2x128x4x64 .f32 := Host.absf main_v8
  let main_cst_1 : FVec F S_ .f32 := constant S_ .f32 0x7F800000#32
  let main_v10 : FVec F S2x128x4x64 .f32 := broadcastInDim S2x128x4x64 ![] bcast_S_S2x128x4x64 main_cst_1
  let main_v11 : IVec S2x128x4x64 1 := cmpf .olt main_v9 main_v10
  (main_v3, main_v7, main_v11)
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bitsLt_bf16_f32 : FTy.bits .bf16 < FTy.bits .f32
  bcast_S_S2x4096x512 : S_.BroadcastsInDim S2x4096x512 (![] : Fin 0 → Fin S2x4096x512.rank)
  bcast_S_S512x256 : S_.BroadcastsInDim S512x256 (![] : Fin 0 → Fin S512x256.rank)
  bcast_S_S2x4096x4x64 : S_.BroadcastsInDim S2x4096x4x64 (![] : Fin 0 → Fin S2x4096x4x64.rank)

variable [Facts]

def fn {F : FTy → Type} [FloatOps F] (main_arg0 : FVec F S2x4096x512 .bf16) (main_arg1 : FVec F S512x256 .bf16) (main_arg2 : FVec F S2x4096x4x64 .bf16) (main_arg3 : FVec F S2x4096x4x64 .bf16) (main_arg4 : FVec F S256x512 .bf16) : IVec S2x4096x512 1 × IVec S512x256 1 × IVec S2x4096x4x64 1 :=
  let main_v0 : FVec F S2x4096x512 .f32 := (extf .f32 · bitsLt_bf16_f32) main_arg0
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x4096x4x64 .f32 := (extf .f32 · bitsLt_bf16_f32) main_arg2
  let main_v9 : FVec F S2x4096x4x64 .f32 := Host.absf main_v8
  let main_cst_1 : FVec F S_ .f32 := constant S_ .f32 0x7F800000#32
  let main_v10 : FVec F S2x4096x4x64 .f32 := broadcastInDim S2x4096x4x64 ![] bcast_S_S2x4096x4x64 main_cst_1
  let main_v11 : IVec S2x4096x4x64 1 := cmpf .olt main_v9 main_v10
  (main_v3, main_v7, main_v11)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S16x2x2x128x4x64 : Shape := ⟨6, ![16, 2, 2, 128, 4, 64]⟩
abbrev S15 : Shape := ⟨1, ![15]⟩
abbrev S_ : Shape := ⟨0, ![]⟩
abbrev S1x1x2x128x4x64 : Shape := ⟨6, ![1, 1, 2, 128, 4, 64]⟩
abbrev S1 : Shape := ⟨1, ![1]⟩
abbrev S1x2x2x128x4x64 : Shape := ⟨6, ![1, 2, 2, 128, 4, 64]⟩
abbrev S2x2x128x4x64 : Shape := ⟨5, ![2, 2, 128, 4, 64]⟩
abbrev S256x256 : Shape := ⟨2, ![256, 256]⟩
abbrev S64x64 : Shape := ⟨2, ![64, 64]⟩
abbrev S16x1x1x64x1x64 : Shape := ⟨6, ![16, 1, 1, 64, 1, 64]⟩
abbrev S16x64x64 : Shape := ⟨3, ![16, 64, 64]⟩
abbrev S1024x64 : Shape := ⟨2, ![1024, 64]⟩
abbrev S64x1024 : Shape := ⟨2, ![64, 1024]⟩
abbrev S64 : Shape := ⟨1, ![64]⟩
abbrev S64x1 : Shape := ⟨2, ![64, 1]⟩
abbrev S64x256 : Shape := ⟨2, ![64, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S16x2x2x128x4x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.subi v2 c2_i32
  let c32_i32_0 : BitVec 32 := 32#32
  let c0_i32 : BitVec 32 := 0#32
  let v4 : BitVec 1 := Scalar.cmpi .eq c32_i32_0 c0_i32
  let c1_i32_1 : BitVec 32 := 1#32
  let v5 : BitVec 32 := Scalar.select v4 c1_i32_1 c32_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_13 : BitVec 32 := 1#32
  let v26 : BitVec 32 := Scalar.muli v13 c1_i32_13
  let v27 : BitVec 32 := Scalar.addi c0_i32_14 v26
  v27.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_16 : BitVec 32 := 1#32
  let v28 : BitVec 32 := Scalar.muli v24 c1_i32_16
  let v29 : BitVec 32 := Scalar.addi c0_i32_17 v28
  v29.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_41 : BitVec 32 := 1#32
  let v40 : BitVec 32 := Scalar.muli v24 c1_i32_41
  let v41 : BitVec 32 := Scalar.addi c0_i32_42 v40
  v41.toNat
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_88 : BitVec 32 := 1#32
  let v64 : BitVec 32 := Scalar.muli v24 c1_i32_88
  let v65 : BitVec 32 := Scalar.addi c0_i32_89 v64
  v65.toNat
def k0_dev5 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_134 : BitVec 32 := 1#32
  let v88 : BitVec 32 := Scalar.muli v24 c1_i32_134
  let v89 : BitVec 32 := Scalar.addi c0_i32_135 v88
  v89.toNat
def k0_dev6 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_180 : BitVec 32 := 1#32
  let v112 : BitVec 32 := Scalar.muli v24 c1_i32_180
  let v113 : BitVec 32 := Scalar.addi c0_i32_181 v112
  v113.toNat
def k0_dev7 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_226 : BitVec 32 := 1#32
  let v136 : BitVec 32 := Scalar.muli v24 c1_i32_226
  let v137 : BitVec 32 := Scalar.addi c0_i32_227 v136
  v137.toNat
def k0_dev8 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_272 : BitVec 32 := 1#32
  let v160 : BitVec 32 := Scalar.muli v24 c1_i32_272
  let v161 : BitVec 32 := Scalar.addi c0_i32_273 v160
  v161.toNat
def k0_dev9 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_318 : BitVec 32 := 1#32
  let v184 : BitVec 32 := Scalar.muli v24 c1_i32_318
  let v185 : BitVec 32 := Scalar.addi c0_i32_319 v184
  v185.toNat
def k0_dev10 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_364 : BitVec 32 := 1#32
  let v208 : BitVec 32 := Scalar.muli v24 c1_i32_364
  let v209 : BitVec 32 := Scalar.addi c0_i32_365 v208
  v209.toNat
def k0_dev11 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_410 : BitVec 32 := 1#32
  let v232 : BitVec 32 := Scalar.muli v24 c1_i32_410
  let v233 : BitVec 32 := Scalar.addi c0_i32_411 v232
  v233.toNat
def k0_dev12 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_456 : BitVec 32 := 1#32
  let v256 : BitVec 32 := Scalar.muli v24 c1_i32_456
  let v257 : BitVec 32 := Scalar.addi c0_i32_457 v256
  v257.toNat
def k0_dev13 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_502 : BitVec 32 := 1#32
  let v280 : BitVec 32 := Scalar.muli v24 c1_i32_502
  let v281 : BitVec 32 := Scalar.addi c0_i32_503 v280
  v281.toNat
def k0_dev14 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_548 : BitVec 32 := 1#32
  let v304 : BitVec 32 := Scalar.muli v24 c1_i32_548
  let v305 : BitVec 32 := Scalar.addi c0_i32_549 v304
  v305.toNat
def k0_dev15 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_594 : BitVec 32 := 1#32
  let v328 : BitVec 32 := Scalar.muli v24 c1_i32_594
  let v329 : BitVec 32 := Scalar.addi c0_i32_595 v328
  v329.toNat
def k0_dev16 (d0 : Dev nD) : Nat :=
  let c0_i32_641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_640 : BitVec 32 := 1#32
  let v352 : BitVec 32 := Scalar.muli v24 c1_i32_640
  let v353 : BitVec 32 := Scalar.addi c0_i32_641 v352
  v353.toNat
def k0_dev17 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5 : BitVec 32 := 2#32
  let v14 : BitVec 32 := Scalar.addi v2 c2_i32_5
  let c32_i32_6 : BitVec 32 := 32#32
  let c0_i32_7 : BitVec 32 := 0#32
  let v15 : BitVec 1 := Scalar.cmpi .eq c32_i32_6 c0_i32_7
  let c1_i32_8 : BitVec 32 := 1#32
  let v16 : BitVec 32 := Scalar.select v15 c1_i32_8 c32_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_686 : BitVec 32 := 1#32
  let v376 : BitVec 32 := Scalar.muli v24 c1_i32_686
  let v377 : BitVec 32 := Scalar.addi c0_i32_687 v376
  v377.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 142
  | .vmem => 0
  | .smem => 0
  | _ => 0

abbrev hbmTy0_0 (i : Nat) : BufTy := match i % 128 with
  | 0 => ⟨S2x4096x512, .bf16⟩
  | 1 => ⟨S512x256, .bf16⟩
  | 2 => ⟨S2x4096x4x64, .bf16⟩
  | 3 => ⟨S2x4096x4x64, .bf16⟩
  | 4 => ⟨S256x512, .bf16⟩
  | 5 => ⟨S2x4096x512, .f32⟩
  | 6 => ⟨S512x256, .f32⟩
  | 7 => ⟨S2x4096x4x64, .f32⟩
  | 8 => ⟨S2x4096x4x64, .f32⟩
  | 9 => ⟨S256x512, .f32⟩
  | 10 => ⟨S2x4096x256, .f32⟩
  | 11 => ⟨S2x4096x4x64, .f32⟩
  | 12 => ⟨S4096, .i32⟩
  | 13 => ⟨S_, .i32⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i1⟩
  | 21 => ⟨S4096, .i32⟩
  | 22 => ⟨S4096, .i32⟩
  | 23 => ⟨S_, .i32⟩
  | 24 => ⟨S4096, .i32⟩
  | 25 => ⟨S4096, .i1⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096, .i32⟩
  | 33 => ⟨S_, .i32⟩
  | 34 => ⟨S_, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i1⟩
  | 41 => ⟨S4096, .i32⟩
  | 42 => ⟨S4096, .i32⟩
  | 43 => ⟨S_, .i32⟩
  | 44 => ⟨S4096, .i32⟩
  | 45 => ⟨S4096, .i1⟩
  | 46 => ⟨S4096, .i1⟩
  | 47 => ⟨S_, .i32⟩
  | 48 => ⟨S4096, .i32⟩
  | 49 => ⟨S4096, .i32⟩
  | 50 => ⟨S4096, .i32⟩
  | 51 => ⟨S1x4096, .i32⟩
  | 52 => ⟨S4096x4096, .i32⟩
  | 53 => ⟨S4096x4096, .i32⟩
  | 54 => ⟨S4096x4096, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x4096, .i32⟩
  | 62 => ⟨S1x4096, .i32⟩
  | 63 => ⟨S_, .i32⟩
  | 64 => ⟨S1x4096, .i32⟩
  | 65 => ⟨S1x4096, .i1⟩
  | 66 => ⟨S_, .i32⟩
  | 67 => ⟨S1x4096, .i32⟩
  | 68 => ⟨S1x4096, .i1⟩
  | 69 => ⟨S_, .i32⟩
  | 70 => ⟨S_, .i1⟩
  | 71 => ⟨S1x4096, .i1⟩
  | 72 => ⟨S1x4096, .i1⟩
  | 73 => ⟨S1x4096, .i1⟩
  | 74 => ⟨S1x4096, .i32⟩
  | 75 => ⟨S1x4096, .i32⟩
  | 76 => ⟨S1x4096, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S4096x1, .i32⟩
  | 84 => ⟨S4096x1, .i32⟩
  | 85 => ⟨S_, .i32⟩
  | 86 => ⟨S4096x1, .i32⟩
  | 87 => ⟨S4096x1, .i1⟩
  | 88 => ⟨S_, .i32⟩
  | 89 => ⟨S4096x1, .i32⟩
  | 90 => ⟨S4096x1, .i1⟩
  | 91 => ⟨S_, .i32⟩
  | 92 => ⟨S_, .i1⟩
  | 93 => ⟨S4096x1, .i1⟩
  | 94 => ⟨S4096x1, .i1⟩
  | 95 => ⟨S4096x1, .i1⟩
  | 96 => ⟨S4096x1, .i32⟩
  | 97 => ⟨S4096x1, .i32⟩
  | 98 => ⟨S4096x1, .i32⟩
  | 99 => ⟨S4096x4096, .i32⟩
  | 100 => ⟨S4096x4096, .i32⟩
  | 101 => ⟨S4096x4096, .i1⟩
  | 102 => ⟨S4096x4096, .i1⟩
  | 103 => ⟨S2x4x4096x4096, .f32⟩
  | 104 => ⟨S_, .f32⟩
  | 105 => ⟨S2x4x4096x4096, .f32⟩
  | 106 => ⟨S2x4x4096x4096, .f32⟩
  | 107 => ⟨S1x1x4096x4096, .i1⟩
  | 108 => ⟨S_, .f32⟩
  | 109 => ⟨S_, .f32⟩
  | 110 => ⟨S2x4x4096x4096, .i1⟩
  | 111 => ⟨S2x4x4096x4096, .f32⟩
  | 112 => ⟨S2x4x4096x4096, .f32⟩
  | 113 => ⟨S_, .f32⟩
  | 114 => ⟨S2x4x4096, .f32⟩
  | 115 => ⟨S2x4x4096x1, .f32⟩
  | 116 => ⟨S2x4x4096x4096, .f32⟩
  | 117 => ⟨S2x4x4096x4096, .f32⟩
  | 118 => ⟨S2x4x4096x4096, .f32⟩
  | 119 => ⟨S_, .i1⟩
  | 120 => ⟨S4096, .i1⟩
  | 121 => ⟨S1x1x4096x1, .i1⟩
  | 122 => ⟨S_, .f32⟩
  | 123 => ⟨S2x4x4096, .f32⟩
  | 124 => ⟨S2x4x4096x1, .f32⟩
  | 125 => ⟨S_, .f32⟩
  | 126 => ⟨S_, .f32⟩
  | 127 => ⟨S2x4x4096x1, .i1⟩
  | _ => ⟨S2x4096x512, .bf16⟩

abbrev hbmTy0_1 (i : Nat) : BufTy := match i % 128 with
  | 0 => ⟨S2x4x4096x1, .f32⟩
  | 1 => ⟨S2x4x4096x1, .f32⟩
  | 2 => ⟨S2x4x4096x4096, .f32⟩
  | 3 => ⟨S2x4x4096x4096, .f32⟩
  | 4 => ⟨S1x1x4096x1, .i1⟩
  | 5 => ⟨S_, .f32⟩
  | 6 => ⟨S_, .f32⟩
  | 7 => ⟨S2x4x4096x4096, .i1⟩
  | 8 => ⟨S2x4x4096x4096, .f32⟩
  | 9 => ⟨S2x4x4096x4096, .f32⟩
  | 10 => ⟨S2x4x64x4096, .f32⟩
  | 11 => ⟨S2x4096x4x64, .f32⟩
  | 12 => ⟨S2x4096x256, .f32⟩
  | 13 => ⟨S2x4096x512, .f32⟩
  | _ => ⟨S2x4096x512, .bf16⟩

abbrev hbmTy (i : Nat) : BufTy := match i / 128 with
  | 0 => hbmTy0_0 i
  | 1 => hbmTy0_1 i
  | _ => ⟨S2x4096x512, .bf16⟩

abbrev bufTy : (tb : Table) → Fin (tcTables nBuf tb) → BufTy
  | .hbm, ⟨i, _⟩ => hbmTy i
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Ring.lean ====
/-
  The ring of the gather, its cells and its contents, for any float values.

  Device `c` hands to `nxt c = c + 2` and receives from `prv c = c - 2` (modulo 32), so that the 32 devices form two
  rings of sixteen. The gather buffer has sixteen slots: slot `g` of device `c` comes to hold the key and value blocks
  of device `back c g = c - 2g`. This module names the devices, the slots as views of the buffer, the buffer's final
  contents `full`, and shows that each landing (and the two stores that fill slot 0) leaves its slot at `full`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxRank6

@[expose] public section

noncomputable section

namespace Cert.Gather

open Cert.KernelIdeal Cert.KernelIdeal.Gen

open Idealize.ShloMosaic
open Idealize.ShloMosaic.TcCoe
open Idealize.SL Idealize.SL.Sem

variable {F : FTy → Type} [FloatOps F]

/-! ## The ring -/

set_option backward.proofsInPublic true in
/-- The device the transfers address. -/
def nxt (c : Dev nD) : Dev nD := ⟨(c.val + 2) % 32, Nat.mod_lt _ (by decide)⟩
set_option backward.proofsInPublic true in
/-- The device whose transfers land here. -/
def prv (c : Dev nD) : Dev nD := ⟨(c.val + 30) % 32, Nat.mod_lt _ (by decide)⟩
set_option backward.proofsInPublic true in
/-- The device `g` steps back along the ring. -/
def back (c : Dev nD) (g : ℕ) : Dev nD := ⟨(c.val + 30 * g) % 32, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

theorem back_zero (c : Dev nD) : back c 0 = c := Fin.ext (Nat.mod_eq_of_lt c.isLt)
theorem back_nxt_succ (c : Dev nD) (g : ℕ) : back (nxt c) (g + 1) = back c g := Fin.ext (by
  show ((c.val + 2) % 32 + 30 * (g + 1)) % 32 = (c.val + 30 * g) % 32
  omega)

/-- The two rings as one permutation of the devices. -/
def ring : Dev nD ≃ Dev nD := ⟨nxt, prv, prv_nxt, nxt_prv⟩

/-! ## The slots -/

/-- Slot `g` of the gather buffer lies inside it. -/
theorem inb_slot (g : Fin 16) : ∀ a, (![g.val, 0, 0, 0, 0, 0] : Fin 6 → Nat) a + S1x2x2x128x4x64.size a ≤ S16x2x2x128x4x64.size a := by
  revert g; decide

/-- Slot `g` of the gather buffer, as the transfers name it. -/
abbrev slotM (g : Fin 16) : Memref sig .tc .vmem S2x2x128x4x64 .bf16 :=
  ((Memref.whole cc0_scratch0).slice (Rect.unit (s := S16x2x2x128x4x64) ![g.val, 0, 0, 0, 0, 0] S1x2x2x128x4x64.size (inb_slot g))
    (fun _ => rfl)).squeeze S2x2x128x4x64 squeezes_S1x2x2x128x4x64_S2x2x128x4x64

/-- The elements of slot `g`. -/
abbrev slotSet (g : Fin 16) : Finset S16x2x2x128x4x64.Idx := (slotM g).view.set

theorem slotSet_eq (g : Fin 16) :
    slotSet g = (Rect.unit (s := S16x2x2x128x4x64) ![g.val, 0, 0, 0, 0, 0] S1x2x2x128x4x64.size (inb_slot g)).set := by
  exact (View.set_reshape _ _).trans (View.set_slice_whole _ _)

/-- An element lies in slot `g` when its first coordinate is `g`. -/
theorem mem_slotSet {g : Fin 16} {i : S16x2x2x128x4x64.Idx} : i ∈ slotSet g ↔ i 0 = g := by
  rw [slotSet_eq, Rect.mem_set_unit]
  constructor
  · intro h
    have h0 := h 0
    exact Fin.ext (by have h1 : g.val ≤ (i 0).val := h0.1; have h2 : (i 0).val < g.val + 1 := h0.2; omega)
  · intro h a
    match a with
    | ⟨0, _⟩ => exact ⟨by rw [← h]; exact le_refl _, by rw [← h]; exact Nat.lt_succ_self _⟩
    | ⟨1, _⟩ => exact ⟨Nat.zero_le _, by rw [show (![g.val, 0, 0, 0, 0, 0] : Fin 6 → Nat) ⟨1, by decide⟩ = 0 from rfl, Nat.zero_add]; exact (i 1).isLt⟩
    | ⟨2, _⟩ => exact ⟨Nat.zero_le _, by rw [show (![g.val, 0, 0, 0, 0, 0] : Fin 6 → Nat) ⟨2, by decide⟩ = 0 from rfl, Nat.zero_add]; exact (i 2).isLt⟩
    | ⟨3, _⟩ => exact ⟨Nat.zero_le _, by rw [show (![g.val, 0, 0, 0, 0, 0] : Fin 6 → Nat) ⟨3, by decide⟩ = 0 from rfl, Nat.zero_add]; exact (i 3).isLt⟩
    | ⟨4, _⟩ => exact ⟨Nat.zero_le _, by rw [show (![g.val, 0, 0, 0, 0, 0] : Fin 6 → Nat) ⟨4, by decide⟩ = 0 from rfl, Nat.zero_add]; exact (i 4).isLt⟩
    | ⟨5, _⟩ => exact ⟨Nat.zero_le _, by rw [show (![g.val, 0, 0, 0, 0, 0] : Fin 6 → Nat) ⟨5, by decide⟩ = 0 from rfl, Nat.zero_add]; exact (i 5).isLt⟩

theorem slotSet_disjoint {g g' : Fin 16} (h : g ≠ g') : Disjoint (slotSet g) (slotSet g') :=
  Finset.disjoint_left.mpr fun i hi hi' => h ((mem_slotSet.mp hi).symm.trans (mem_slotSet.mp hi'))

/-- The sixteen slots are the whole buffer. -/
theorem biUnion_slotSet : (Finset.univ : Finset (Fin 16)).biUnion slotSet = Finset.univ := by
  ext i
  simp only [Finset.mem_biUnion, Finset.mem_univ, true_and, iff_true]
  exact ⟨i 0, mem_slotSet.mpr rfl⟩

/-! ## The contents -/

/-- The contents of a staged key or value block. -/
abbrev BlockC (F : FTy → Type) : Type := (cc0_stg2_0 : Ref sig .tc).ty.Contents (Elt F)

/-- The last four coordinates of an element of the gather buffer: its place in the block. -/
def tail4 (i : S16x2x2x128x4x64.Idx) : S2x128x4x64.Idx := fun a => match a with
  | ⟨0, _⟩ => i 2 | ⟨1, _⟩ => i 3 | ⟨2, _⟩ => i 4 | ⟨3, _⟩ => i 5

/-- The gather buffer of device `c` when every landing is in: slot `g` holds the key block (at second coordinate 0) and the
    value block (at 1) of the device `g` steps back. -/
def fullOf (ks vs : Dev nD → BlockC F) (c : Dev nD) : (cc0_scratch0 : Ref sig .tc).ty.Contents (Elt F) :=
  fun i => if (i 1).val = 0 then ks (back c (i 0).val) (tail4 i) else vs (back c (i 0).val) (tail4 i)

variable (ks vs : Dev nD → BlockC F)

omit [FloatOps F] in
/-- The element of the buffer under a slot's index: the slot's number before the index. -/
theorem slot_emb (g : Fin 16) (x : S2x2x128x4x64.Idx) :
    ((slotM g).view.emb x : S16x2x2x128x4x64.Idx)
      = (Rect.unit (s := S16x2x2x128x4x64) ![g.val, 0, 0, 0, 0, 0] S1x2x2x128x4x64.size (inb_slot g)).emb
          (Shape.reshapeEquiv squeezes_S1x2x2x128x4x64_S2x2x128x4x64.numel_eq x) := rfl

omit [FloatOps F] in
/-- A landing of slot `h` of device `c` in slot `h + 1` of the next device leaves that slot at the next device's final
    contents. -/
theorem landed_eq (c : Dev nD) (h : Fin 15) (fd : (cc0_scratch0 : Ref sig .tc).ty.Contents (Elt F)) :
    ∀ i ∈ slotSet h.succ, (slotM h.succ).view.write (Elt F) fd ((slotM h.castSucc).view.read (Elt F) (fullOf ks vs c)) Finset.univ i
      = fullOf ks vs (nxt c) i := by
  intro i hi
  obtain ⟨x, -, rfl⟩ := Finset.mem_map.mp hi
  rw [View.write_emb_of_mem _ _ (Finset.mem_univ x), View.read_apply]
  rw [cast_cast, cast_eq]
  show fullOf ks vs c ((slotM h.castSucc).view.emb x : S16x2x2x128x4x64.Idx) = fullOf ks vs (nxt c) ((slotM h.succ).view.emb x : S16x2x2x128x4x64.Idx)
  rw [slot_emb, slot_emb]
  generalize Shape.reshapeEquiv squeezes_S1x2x2x128x4x64_S2x2x128x4x64.numel_eq x = y
  have hy : (y 0).val = 0 := by have : (y 0).val < 1 := (y 0).isLt; omega
  have e1 : ∀ g : Fin 16, (((Rect.unit (s := S16x2x2x128x4x64) ![g.val, 0, 0, 0, 0, 0] S1x2x2x128x4x64.size (inb_slot g)).emb y) 0).val = g.val := fun g => by
    show g.val + 1 * (y 0).val = g.val; omega
  unfold fullOf
  have e2 : back (nxt c) h.succ.val = back c h.castSucc.val := back_nxt_succ c _
  rw [e1, e1, e2]
  rfl

/-! ## The two stores that fill slot 0 -/

/-- The key half and the value half of slot 0. -/
abbrev keyRect : Rect S16x2x2x128x4x64 :=
  Rect.unit (s := S16x2x2x128x4x64) ![0, 0, 0, 0, 0, 0] S1x1x2x128x4x64.size inb_S16x2x2x128x4x64_S1x1x2x128x4x64_0_0_0_0_0_0
abbrev valRect : Rect S16x2x2x128x4x64 :=
  Rect.unit (s := S16x2x2x128x4x64) ![0, 1, 0, 0, 0, 0] S1x1x2x128x4x64.size inb_S16x2x2x128x4x64_S1x1x2x128x4x64_0_1_0_0_0_0

/-- The gather buffer, whole. -/
abbrev gkvM : Memref sig .tc .vmem S16x2x2x128x4x64 .bf16 := Memref.whole cc0_scratch0

theorem access_set (r : Rect S16x2x2x128x4x64) : ((gkvM.access r : View sig .tc _ _ _).set : Finset S16x2x2x128x4x64.Idx) = r.set :=
  View.set_slice_whole _ _

/-- An element lies in the key half of slot 0 when its first two coordinates are zero; in the value half when they are
    zero and one. -/
theorem mem_half {k : Fin 2} {r : Rect S16x2x2x128x4x64} {inb} (hr : r = Rect.unit (s := S16x2x2x128x4x64) ![0, k.val, 0, 0, 0, 0] S1x1x2x128x4x64.size inb)
    {i : S16x2x2x128x4x64.Idx} : i ∈ r.set ↔ (i 0).val = 0 ∧ (i 1).val = k.val := by
  subst hr
  rw [Rect.mem_set_unit]
  constructor
  · intro h
    have h0 := (h 0).2; have h1 := h 1
    change (i 0).val < 0 + 1 at h0
    change k.val ≤ (i 1).val ∧ (i 1).val < k.val + 1 at h1
    omega
  · rintro ⟨h0, h1⟩ a
    match a with
    | ⟨0, _⟩ => exact ⟨Nat.zero_le _, by change (i 0).val < 0 + 1; omega⟩
    | ⟨1, _⟩ => exact ⟨by change k.val ≤ (i 1).val; omega, by change (i 1).val < k.val + 1; omega⟩
    | ⟨2, _⟩ => exact ⟨Nat.zero_le _, by change (i 2).val < 0 + 2; have : (i 2).val < 2 := (i 2).isLt; omega⟩
    | ⟨3, _⟩ => exact ⟨Nat.zero_le _, by change (i 3).val < 0 + 128; have : (i 3).val < 128 := (i 3).isLt; omega⟩
    | ⟨4, _⟩ => exact ⟨Nat.zero_le _, by change (i 4).val < 0 + 4; have : (i 4).val < 4 := (i 4).isLt; omega⟩
    | ⟨5, _⟩ => exact ⟨Nat.zero_le _, by change (i 5).val < 0 + 64; have : (i 5).val < 64 := (i 5).isLt; omega⟩

theorem mem_keyRect {i : S16x2x2x128x4x64.Idx} : i ∈ keyRect.set ↔ (i 0).val = 0 ∧ (i 1).val = 0 := mem_half (k := 0) rfl
theorem mem_valRect {i : S16x2x2x128x4x64.Idx} : i ∈ valRect.set ↔ (i 0).val = 0 ∧ (i 1).val = 1 := mem_half (k := 1) rfl

/-- Putting two axes of size one before a block's axes keeps every element. -/
theorem cast_tail {α : Type} (v : S2x128x4x64.Idx → α) (x : S1x1x2x128x4x64.Idx) :
    shapeCast S1x1x2x128x4x64 (shapeCast S2x128x4x64 v shapeCasts_S2x128x4x64_S2x128x4x64) shapeCasts_S2x128x4x64_S1x1x2x128x4x64 x
      = v (fun a => match a with | ⟨0, _⟩ => x 2 | ⟨1, _⟩ => x 3 | ⟨2, _⟩ => x 4 | ⟨3, _⟩ => x 5) := by
  show v (Shape.reshapeEquiv _ (Shape.reshapeEquiv _ x)) = _
  rw [Shape.reshapeEquiv_self]
  refine congrArg v (Shape.reshapeEquiv_eq_of_rowMajor _ ?_)
  have h0 : (x 0).val = 0 := by have : (x 0).val < 1 := (x 0).isLt; omega
  have h1 : (x 1).val = 0 := by have : (x 1).val < 1 := (x 1).isLt; omega
  rw [Shape.rowMajor_val_four, Shape.rowMajor_val_six, h0, h1]
  show (((x 2).val * 128 + (x 3).val) * 4 + (x 4).val) * 64 + (x 5).val
    = ((((0 * 1 + 0) * 2 + (x 2).val) * 128 + (x 3).val) * 4 + (x 4).val) * 64 + (x 5).val
  omega

/-- The place in the block of an element of either half of slot 0. -/
theorem tail4_half {k : Fin 2} {inb} (x : S1x1x2x128x4x64.Idx) :
    tail4 ((Rect.unit (s := S16x2x2x128x4x64) ![0, k.val, 0, 0, 0, 0] S1x1x2x128x4x64.size inb).emb x)
      = fun a => match a with | ⟨0, _⟩ => x 2 | ⟨1, _⟩ => x 3 | ⟨2, _⟩ => x 4 | ⟨3, _⟩ => x 5 := by
  funext a
  match a with
  | ⟨0, _⟩ => exact Fin.ext (by show 0 + 1 * (x 2).val = (x 2).val; omega)
  | ⟨1, _⟩ => exact Fin.ext (by show 0 + 1 * (x 3).val = (x 3).val; omega)
  | ⟨2, _⟩ => exact Fin.ext (by show 0 + 1 * (x 4).val = (x 4).val; omega)
  | ⟨3, _⟩ => exact Fin.ext (by show 0 + 1 * (x 5).val = (x 5).val; omega)

omit [FloatOps F] in
/-- What the two stores leave in slot 0 of device `c`: its own blocks. -/
theorem stored_eq (c : Dev nD) (f : (cc0_scratch0 : Ref sig .tc).ty.Contents (Elt F)) :
    ∀ i ∈ slotSet 0, (gkvM.access valRect).write (Elt F) ((gkvM.access keyRect).write (Elt F) f (k0_pay2 (ks c)) Finset.univ) (k0_pay3 (vs c)) Finset.univ i
      = fullOf ks vs c i := by
  intro i hi
  have h0 : i 0 = (0 : Fin 16) := mem_slotSet.mp hi
  have h0' : (i 0).val = 0 := congrArg Fin.val h0
  by_cases h1 : (i 1).val = 0
  · rw [View.write_of_not_mem _ _ _ (fun h => by
      rw [View.setOn_univ, access_set] at h
      have := (mem_valRect.mp h).2; omega)]
    have hk : i ∈ ((gkvM.access keyRect : View sig .tc _ _ _).set : Finset S16x2x2x128x4x64.Idx) := by
      rw [access_set]; exact mem_keyRect.mpr ⟨h0', h1⟩
    obtain ⟨x, -, rfl⟩ := Finset.mem_map.mp hk
    rw [View.write_emb_of_mem _ _ (Finset.mem_univ x)]
    unfold fullOf k0_pay2
    rw [if_pos h1, h0', back_zero]
    exact (cast_tail (ks c) x).trans (congrArg (ks c) (tail4_half (k := 0) x).symm)
  · have h1' : (i 1).val = 1 := by have : (i 1).val < 2 := (i 1).isLt; omega
    have hk : i ∈ ((gkvM.access valRect : View sig .tc _ _ _).set : Finset S16x2x2x128x4x64.Idx) := by
      rw [access_set]; exact mem_valRect.mpr ⟨h0', h1'⟩
    obtain ⟨x, -, rfl⟩ := Finset.mem_map.mp hk
    rw [View.write_emb_of_mem _ _ (Finset.mem_univ x)]
    unfold fullOf k0_pay3
    rw [if_neg h1, h0', back_zero]
    exact (cast_tail (vs c) x).trans (congrArg (vs c) (tail4_half (k := 1) x).symm)

end Cert.Gather

end
-- ==== Proof.Schedule.lean ====
/-
  The protocol of the gather as a schedule of rounds, for any float values.

  Every semaphore is used once. A device's barrier cell expects two units: duty `true`, paid by the device after it
  (whose transfers' target it is not yet: the payment hands over that device's fifteen landing slots), and duty `false`,
  paid by the device before it, which hands over nothing. Send semaphore `h` and receive semaphore `h` expect one slot's
  credit each: the first hands back slot `h`, the second hands over slot `h + 1`, both at the buffer's final contents.
  A device waits on cells of growing level: staging and send cells at 0, the barrier at 1, receive cell `h` at `2 + h`.
-/
module

public import proofs.«01_k».proof.Proof.Ring

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's copy and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore; send semaphore `h`; receive semaphore `h`. -/
abbrev barS : Sem sig := (SemArray.scalar (sig.barrier 0 rfl) : Sems sig S_).sem
set_option backward.proofsInPublic true in
def sendS (h : Fin 15) : DmaSem sig := ⟨6 + h.val, by have := h.isLt; show _ < 36; omega⟩
set_option backward.proofsInPublic true in
def recvS (h : Fin 15) : DmaSem sig := ⟨21 + h.val, by have := h.isLt; show _ < 36; omega⟩

/-- A device's own semaphores (send, receive) and with the barrier all those of the protocol. -/
abbrev Own : Type := Fin 15 ⊕ Fin 15
abbrev Idx1 : Type := Unit ⊕ Own

abbrev osem : Own → SemLoc sig := fun | .inl h => .dma (sendS h) | .inr h => .dma (recvS h)
abbrev csem : Idx1 → SemLoc sig := fun | .inl _ => .reg barS | .inr k => osem k
abbrev kcell (ck : Dev nD × Idx1) : GSem nD τ sig := ((ck.1 : Thread nD τ), csem ck.2)

abbrev barCell (c : Dev nD) : GSem nD τ sig := ((c : Thread nD τ), .reg barS)
abbrev sendCell (h : Fin 15) (c : Dev nD) : GSem nD τ sig := ((c : Thread nD τ), .dma (sendS h))
abbrev recvCell (h : Fin 15) (c : Dev nD) : GSem nD τ sig := ((c : Thread nD τ), .dma (recvS h))

/-- A slot's credit. -/
def N : ℕ := (slotM 0).view.dmaCredit
theorem credit_slot (g : Fin 16) : (slotM g).view.dmaCredit = N := rfl
theorem N_pos : 0 < N := View.dmaCredit_pos _ (by decide)

/-- The slot a send or receive semaphore answers for. -/
def slotIx (q : DmaSem sig) : Fin 16 := Fin.ofNat 16 (if q.val < 21 then q.val - 6 else q.val - 20)
theorem slotIx_send (h : Fin 15) : slotIx (sendS h) = h.castSucc := by revert h; decide
theorem slotIx_recv (h : Fin 15) : slotIx (recvS h) = h.succ := by revert h; decide

/-! ## The schedule -/

/-- Slot `g` of device `c`, at contents `f`. -/
def slotPts (c : Dev nD) (g : Fin 16) (f : (cc0_scratch0 : Ref sig .tc).ty.Contents (Elt F)) : sProp 𝕄 :=
  (slotM g).view.loc (c : Thread nD τ) ↦[slotSet g]{fullShare} f

omit [FloatOps F] in
instance slotPts_storable (c : Dev nD) (g : Fin 16) (f) : BI.Storable (upEmb : UEmb _ 𝕄) (slotPts (F := F) c g f) := by
  unfold slotPts; infer_instance

omit [FloatOps F] in
/-- A separating conjunction of storable assertions is storable. -/
theorem bigSep_storable {I : Type} [DecidableEq I] (S : Finset I) (Φ : I → sProp 𝕄) (h : ∀ i, BI.Storable (upEmb : UEmb _ 𝕄) (Φ i)) :
    BI.Storable (upEmb : UEmb _ 𝕄) (bigSep S Φ) := by
  induction S using Finset.induction_on with
  | empty => rw [bigSep_empty]; show BI.Storable upEmb (iprop(emp) : sProp 𝕄); infer_instance
  | insert i S hi ih =>
    rw [bigSep_insert hi]; haveI := h i
    show BI.Storable upEmb (iprop(Φ i ∗ bigSep S Φ) : sProp 𝕄)
    infer_instance

/-- What the device after `c` hands it at the barrier: its fifteen landing slots. -/
def barPay (c : Dev nD) : sProp 𝕄 := bigSep Finset.univ fun h : Fin 15 => iprop(∃ f, slotPts (nxt c) h.succ f)

omit [FloatOps F] in
instance barPay_storable (c : Dev nD) : BI.Storable (upEmb : UEmb _ 𝕄) (barPay (F := F) c) :=
  bigSep_storable _ _ fun h => inferInstance

variable (ks vs : Dev nD → BlockC F)

/-- One round: two duties of one unit at a barrier cell, one duty of a slot's credit at a send or receive cell. -/
def rd : Rounds.Schedule (GSem nD τ sig) Bool 𝕄 where
  duties g r := if r = 0 ∧ g.1.2 = .tc then
      match g.2 with | .reg _ => Finset.univ | .dma q => if 6 ≤ q.val then {false} else ∅
    else ∅
  unitless _ := False
  amount g _ _ := match g.2 with | .reg _ => 1 | .dma _ => N
  payload g _ d := match g.2 with
    | .reg _ => if d then barPay g.1.1 else iprop(emp)
    | .dma q => slotPts g.1.1 (slotIx q) (fullOf ks vs g.1.1)
  amount_pos g _ _ _ := by
    rcases g with ⟨t, s | q⟩
    · exact Nat.one_pos
    · exact N_pos

omit [FloatOps F] in
instance rd_payload_storable (g : GSem nD τ sig) (r : ℕ) (d : Bool) :
    BI.Storable (upEmb : UEmb _ 𝕄) ((rd (F := F) ks vs).payload g r d) := by
  rcases g with ⟨t, s | q⟩
  · show BI.Storable upEmb (if d then barPay t.1 else iprop(emp))
    split <;> infer_instance
  · show BI.Storable upEmb (slotPts t.1 (slotIx q) (fullOf ks vs t.1))
    infer_instance

section Tables
variable (c : Dev nD) (h : Fin 15)

omit [FloatOps F] in
theorem duties_bar : (rd (F := F) ks vs).duties (barCell c) 0 = Finset.univ := by
  dsimp only [rd]; exact if_pos ⟨rfl, rfl⟩
omit [FloatOps F] in
theorem duties_send : (rd (F := F) ks vs).duties (sendCell h c) 0 = {false} := by
  dsimp only [rd]; rw [if_pos ⟨rfl, rfl⟩]; exact if_pos (show 6 ≤ 6 + h.val by omega)
omit [FloatOps F] in
theorem duties_recv : (rd (F := F) ks vs).duties (recvCell h c) 0 = {false} := by
  dsimp only [rd]; rw [if_pos ⟨rfl, rfl⟩]; exact if_pos (show 6 ≤ 21 + h.val by omega)
omit [FloatOps F] in
theorem duties_later (g : GSem nD τ sig) : ∀ r, 1 ≤ r → (rd (F := F) ks vs).duties g r = ∅ :=
  fun r hr => if_neg fun h => by omega

omit [FloatOps F] in
theorem amount_bar (d : Bool) : (rd (F := F) ks vs).amount (barCell c) 0 d = 1 := rfl
omit [FloatOps F] in
theorem amount_send (d : Bool) : (rd (F := F) ks vs).amount (sendCell h c) 0 d = N := rfl
omit [FloatOps F] in
theorem amount_recv (d : Bool) : (rd (F := F) ks vs).amount (recvCell h c) 0 d = N := rfl

omit [FloatOps F] in
theorem expect_bar : (rd (F := F) ks vs).expect (barCell c) 0 = 2 := by
  unfold Schedule.expect Schedule.amountOf
  rw [duties_bar, Finset.sum_congr rfl fun d _ => amount_bar ks vs c d, Finset.sum_const, Finset.card_univ, Fintype.card_bool, smul_eq_mul]
omit [FloatOps F] in
theorem expect_send : (rd (F := F) ks vs).expect (sendCell h c) 0 = N := by
  unfold Schedule.expect Schedule.amountOf; rw [duties_send, Finset.sum_singleton, amount_send]
omit [FloatOps F] in
theorem expect_recv : (rd (F := F) ks vs).expect (recvCell h c) 0 = N := by
  unfold Schedule.expect Schedule.amountOf; rw [duties_recv, Finset.sum_singleton, amount_recv]

omit [FloatOps F] in
theorem payload_bar_true : (rd (F := F) ks vs).payload (barCell c) 0 true = barPay c := rfl
omit [FloatOps F] in
theorem payload_bar_false : (rd (F := F) ks vs).payload (barCell c) 0 false = iprop(emp) := rfl
omit [FloatOps F] in
theorem payload_send (d : Bool) : (rd (F := F) ks vs).payload (sendCell h c) 0 d = slotPts c h.castSucc (fullOf ks vs c) := by
  show slotPts c (slotIx (sendS h)) (fullOf ks vs c) = _
  rw [slotIx_send]
omit [FloatOps F] in
theorem payload_recv (d : Bool) : (rd (F := F) ks vs).payload (recvCell h c) 0 d = slotPts c h.succ (fullOf ks vs c) := by
  show slotPts c (slotIx (recvS h)) (fullOf ks vs c) = _
  rw [slotIx_recv]

omit [FloatOps F] in
/-- What a wait for a whole round brings. -/
theorem rest_bar : bigSep ((rd (F := F) ks vs).duties (barCell c) 0 \ ∅) (fun d => (rd (F := F) ks vs).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
theorem rest_send : bigSep ((rd (F := F) ks vs).duties (sendCell h c) 0 \ ∅) (fun d => (rd (F := F) ks vs).payload (sendCell h c) 0 d)
    = slotPts c h.castSucc (fullOf ks vs c) := by
  rw [Finset.sdiff_empty, duties_send, bigSep_singleton, payload_send]
omit [FloatOps F] in
theorem rest_recv : bigSep ((rd (F := F) ks vs).duties (recvCell h c) 0 \ ∅) (fun d => (rd (F := F) ks vs).payload (recvCell h c) 0 d)
    = slotPts c h.succ (fullOf ks vs c) := by
  rw [Finset.sdiff_empty, duties_recv, bigSep_singleton, payload_recv]

end Tables

/-! ## What a device owes; the levels -/

/-- The transfers from the `n`th on are owed to the receive cells of the next device. -/
def owedFrom (n : ℕ) (c : Dev nD) : CellTallies nD τ sig Unit :=
  ∑ h ∈ Finset.univ.filter (fun h : Fin 15 => n ≤ h.val), tallyAt (recvCell h (nxt c)) () N

/-- At launch the two barrier units too: that to `prv c` is paid first, that to `nxt c` second. -/
def owed₁ (c : Dev nD) : CellTallies nD τ sig Unit := owedFrom 0 c + tallyAt (barCell (nxt c)) () 1
def owed₀ (c : Dev nD) : CellTallies nD τ sig Unit := owed₁ c + tallyAt (barCell (prv c)) () 1

theorem filter_from (h : Fin 15) : (Finset.univ.filter fun h' : Fin 15 => h.val ≤ h'.val) = insert h (Finset.univ.filter fun h' : Fin 15 => h.val + 1 ≤ h'.val) := by
  ext x; simp only [Finset.mem_filter, Finset.mem_univ, true_and, Finset.mem_insert, Fin.ext_iff]; omega
theorem not_mem_from (h : Fin 15) : h ∉ (Finset.univ.filter fun h' : Fin 15 => h.val + 1 ≤ h'.val) := by
  simp only [Finset.mem_filter, Finset.mem_univ, true_and]; omega

omit [FloatOps F] in
theorem owedFrom_succ (h : Fin 15) (c : Dev nD) : owedFrom h.val c = owedFrom (h.val + 1) c + tallyAt (recvCell h (nxt c)) () N := by
  unfold owedFrom
  rw [filter_from, Finset.sum_insert (not_mem_from h), add_comm]

theorem owedFrom_last (c : Dev nD) : owedFrom 15 c = 0 := by
  unfold owedFrom
  rw [Finset.filter_false_of_mem fun h _ => by have := h.isLt; omega, Finset.sum_empty]

def L (g : GSem nD τ sig) : Finset Unit := if g.1.2 = .tc then {()} else ∅
def lv (g : GSem nD τ sig) (_ : Unit) : ℕ := match g.2 with | .reg _ => 1 | .dma q => if q.val < 21 then 0 else q.val - 19

/-- The cells' levels, as a fact of its own. -/
def lvls : sProp 𝕄 := levAts L lv

omit [FloatOps F] in
theorem lvls_eq : (lvls : sProp 𝕄) = levAts L lv := rfl
omit [FloatOps F] in
instance lvls_persistent : BI.Persistent (lvls (F := F)) := by unfold lvls; infer_instance

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_recv (h : Fin 15) (c : Dev nD) : lv (recvCell h c) () = 2 + h.val := by
  show (if 21 + h.val < 21 then 0 else 21 + h.val - 19) = _
  rw [if_neg (by omega)]; omega
theorem lv_send (h : Fin 15) (c : Dev nD) : lv (sendCell h c) () = 0 := if_pos (show 6 + h.val < 21 by have := h.isLt; omega)

theorem owedFrom_pos {n : ℕ} {c : Dev nD} {g : GSem nD τ sig} {u : Unit} (h : 0 < owedFrom n c g u) :
    ∃ h' : Fin 15, n ≤ h'.val ∧ g = recvCell h' (nxt c) := by
  unfold owedFrom at h
  rw [Finset.sum_apply, Finsupp.finset_sum_apply] at h
  obtain ⟨h', hm, hp⟩ := Finset.exists_ne_zero_of_sum_ne_zero (ne_of_gt h)
  refine ⟨h', (Finset.mem_filter.mp hm).2, ?_⟩
  rw [tallyAt_apply] at hp
  by_contra hn
  exact hp (if_neg fun hh => hn hh.1)

theorem owed₀_pos {c : Dev nD} {g : GSem nD τ sig} {u : Unit} (h : 0 < owed₀ c g u) :
    (∃ h' : Fin 15, g = recvCell h' (nxt c)) ∨ g = barCell (nxt c) ∨ g = barCell (prv c) := by
  unfold owed₀ owed₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  obtain ⟨h', -, hg⟩ := owedFrom_pos h
  exact hn.1 ⟨h', hg⟩

omit [FloatOps F] in
/-- A device may wait on a cell below every transfer it still owes; -/
theorem mayWait_from (c : Dev nD) (sm : SemLoc sig) (n : ℕ) (h : lv ((c : Thread nD τ), sm) () < 2 + n) :
    (lvls : sProp 𝕄) ⊢ MayWait (c : Thread nD τ) sm () (owedFrom n c) := by
  unfold lvls
  exact MayOwe.of_cut (L := L) (lev := lv) (lv ((c : Thread nD τ), sm) ()) (fun p hp => by rw [Finset.mem_singleton.mp hp]; exact mem_L c sm _)
    (fun g u hg => by obtain ⟨h', _, rfl⟩ := owedFrom_pos hg; exact mem_L _ _ _)
    (fun p hp => by rw [Finset.mem_singleton.mp hp])
    (fun g u hg => by obtain ⟨h', hn, rfl⟩ := owedFrom_pos hg; rw [show u = () from rfl, lv_recv]; omega)

omit [FloatOps F] in
/-- and on a staging cell while it owes everything or nothing. -/
theorem mayWait_stage (c : Dev nD) (q : DmaSem sig) (hq : q.val < 6) (O : CellTallies nD τ sig Unit) (hO : O = owed₀ c ∨ O = 0) :
    (levAts L lv : sProp 𝕄) ⊢ MayWait (c : Thread nD τ) (.dma q) () O := by
  have h0 : lv ((c : Thread nD τ), .dma q) () = 0 := if_pos (by omega)
  rcases hO with rfl | rfl
  · refine MayOwe.of_cut (L := L) (lev := lv) 0 (fun p hp => by rw [Finset.mem_singleton.mp hp]; exact mem_L c _ _)
      (fun g u hg => by rcases owed₀_pos hg with ⟨h', rfl⟩ | rfl | rfl <;> exact mem_L _ _ _)
      (fun p hp => by rw [Finset.mem_singleton.mp hp]; exact le_of_eq h0)
      (fun g u hg => by
        rcases owed₀_pos hg with ⟨h', rfl⟩ | rfl | rfl
        · rw [show u = () from rfl, lv_recv]; omega
        · exact Nat.one_pos
        · exact Nat.one_pos)
  · rw [MayWait_zero]; iintro -; iempintro

end Cert.Gather

end
-- ==== Proof.Hop.lean ====
/-
  One hop of the gather, for any float values.

  `St n c` is what device `c` holds when the transfers before the `n`th are done: its slots up to `n` at their final
  contents, the cells of the done transfers closed at zero, and for each transfer still to make what it takes: the next
  device's landing slot, the two duty tokens, its positions on its own two cells and the credit it will receive. `hop` is
  the rule for the three operations of transfer `h` (start it, wait for its send, wait for the landing here): they lead
  from `St h` to `St (h + 1)`.
-/
module

public import proofs.«01_k».proof.Proof.Schedule

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ks vs : Dev nD → BlockC F)

abbrev 𝒱₀ : Variants := Variants.none

/-- Every cell's invariant, under the names `K`, and every cell's mark of having reached round 0. -/
def records (K : Dev nD × Idx1 → ℕ) : sProp 𝕄 :=
  iprop((bigSep Finset.univ fun ck : Dev nD × Idx1 => cellInv ER (rd ks vs) (K ck) (kcell ck))
    ∗ bigSep Finset.univ fun ck : Dev nD × Idx1 => reached ER (kcell ck) 0)

instance records_persistent (K : Dev nD × Idx1 → ℕ) : BI.Persistent (records (F := F) ks vs K) := by unfold records; infer_instance

/-- The facts every step may use: those and the cells' lvls. -/
def env (K : Dev nD × Idx1 → ℕ) : sProp 𝕄 := iprop(records ks vs K ∗ lvls)

instance env_persistent (K : Dev nD × Idx1 → ℕ) : BI.Persistent (env (F := F) ks vs K) := by unfold env; infer_instance

omit [FloatOps F] in
theorem inv_at (K : Dev nD × Idx1 → ℕ) (ck : Dev nD × Idx1) : env ks vs K ⊢ cellInv ER (rd (F := F) ks vs) (K ck) (kcell ck) := by
  unfold env records
  iintro ⟨⟨H, -⟩, -⟩
  iapply (show (bigSep Finset.univ fun ck : Dev nD × Idx1 => (cellInv ER (rd (F := F) ks vs) (K ck) (kcell ck) : sProp 𝕄))
    ⊢ cellInv ER (rd (F := F) ks vs) (K ck) (kcell ck) from bigSep_elim (Finset.mem_univ ck))
  iexact H
omit [FloatOps F] in
theorem reached_at (K : Dev nD × Idx1 → ℕ) (ck : Dev nD × Idx1) : env (F := F) ks vs K ⊢ reached ER (kcell ck) 0 := by
  unfold env records
  iintro ⟨⟨-, H⟩, -⟩
  iapply (show (bigSep Finset.univ fun ck : Dev nD × Idx1 => (reached ER (kcell ck) 0 : sProp 𝕄)) ⊢ reached ER (kcell ck) 0
    from bigSep_elim (Finset.mem_univ ck))
  iexact H
omit [FloatOps F] in
theorem mayWait_at (K : Dev nD × Idx1 → ℕ) (c : Dev nD) (sm : SemLoc sig) (n : ℕ) (h : lv ((c : Thread nD τ), sm) () < 2 + n) :
    env (F := F) ks vs K ⊢ MayWait (c : Thread nD τ) sm () (owedFrom n c) := by
  unfold env
  iintro ⟨-, H⟩
  iapply (mayWait_from (F := F) c sm n h)
  iexact H

/-! ## The state between hops -/

/-- What transfer `h` of device `c` takes. -/
def todo (c : Dev nD) (h : Fin 15) : sProp 𝕄 :=
  iprop((∃ f, slotPts (nxt c) h.succ f) ∗ dutyTok ER (sendCell h c) 0 false ∗ dutyTok ER (recvCell h (nxt c)) 0 false
    ∗ atPos ER (sendCell h c) 0 ∅ 0 ∗ atPos ER (recvCell h c) 0 ∅ 0 ∗ cred (tallyAt (recvCell h c) () N))

/-- What it leaves besides the slots. -/
def done (c : Dev nD) (h : Fin 15) : sProp 𝕄 := iprop(semVal (sendCell h c) 0 ∗ semVal (recvCell h c) 0)

def St (n : ℕ) (c : Dev nD) : sProp 𝕄 :=
  iprop((bigSep (Finset.univ.filter fun g : Fin 16 => g.val ≤ n) fun g => slotPts c g (fullOf ks vs c))
    ∗ (bigSep (Finset.univ.filter fun h : Fin 15 => h.val < n) fun h => done c h)
    ∗ (bigSep (Finset.univ.filter fun h : Fin 15 => n ≤ h.val) fun h => todo c h)
    ∗ ∃ W, owes (c : Thread nD τ) (owedFrom n c) W)

theorem filter_slots (h : Fin 15) : (Finset.univ.filter fun g : Fin 16 => g.val ≤ h.val + 1) = insert h.succ (Finset.univ.filter fun g : Fin 16 => g.val ≤ h.val) := by
  ext x; simp only [Finset.mem_filter, Finset.mem_univ, true_and, Finset.mem_insert, Fin.ext_iff, Fin.val_succ]; omega
theorem not_mem_slots (h : Fin 15) : h.succ ∉ (Finset.univ.filter fun g : Fin 16 => g.val ≤ h.val) := by
  simp only [Finset.mem_filter, Finset.mem_univ, true_and, Fin.val_succ]; omega
theorem mem_slots (h : Fin 15) : h.castSucc ∈ (Finset.univ.filter fun g : Fin 16 => g.val ≤ h.val) := by
  simp only [Finset.mem_filter, Finset.mem_univ, true_and, Fin.val_castSucc, le_refl]
theorem filter_done (h : Fin 15) : (Finset.univ.filter fun h' : Fin 15 => h'.val < h.val + 1) = insert h (Finset.univ.filter fun h' : Fin 15 => h'.val < h.val) := by
  ext x; simp only [Finset.mem_filter, Finset.mem_univ, true_and, Finset.mem_insert, Fin.ext_iff]; omega
theorem not_mem_done (h : Fin 15) : h ∉ (Finset.univ.filter fun h' : Fin 15 => h'.val < h.val) := by
  simp only [Finset.mem_filter, Finset.mem_univ, true_and, lt_irrefl, not_false_eq_true]

omit [FloatOps F] in
/-- The state before hop `h`, its slot and its needs taken out. -/
theorem St_open (h : Fin 15) (c : Dev nD) : St (F := F) ks vs h.val c
    = iprop((slotPts c h.castSucc (fullOf ks vs c) ∗ bigSep ((Finset.univ.filter fun g : Fin 16 => g.val ≤ h.val).erase h.castSucc) fun g => slotPts c g (fullOf ks vs c))
      ∗ (bigSep (Finset.univ.filter fun h' : Fin 15 => h'.val < h.val) fun h' => done c h')
      ∗ (todo c h ∗ bigSep (Finset.univ.filter fun h' : Fin 15 => h.val + 1 ≤ h'.val) fun h' => todo c h')
      ∗ ∃ W, owes (c : Thread nD τ) (owedFrom h.val c) W) := by
  unfold St
  rw [bigSep_erase (mem_slots h), filter_from, bigSep_insert (not_mem_from h)]
  rfl

omit [FloatOps F] in
/-- The state after it, its slots and what it leaves put in. -/
theorem St_close (h : Fin 15) (c : Dev nD) : St (F := F) ks vs (h.val + 1) c
    = iprop((slotPts c h.succ (fullOf ks vs c) ∗ slotPts c h.castSucc (fullOf ks vs c)
          ∗ bigSep ((Finset.univ.filter fun g : Fin 16 => g.val ≤ h.val).erase h.castSucc) fun g => slotPts c g (fullOf ks vs c))
      ∗ (done c h ∗ bigSep (Finset.univ.filter fun h' : Fin 15 => h'.val < h.val) fun h' => done c h')
      ∗ (bigSep (Finset.univ.filter fun h' : Fin 15 => h.val + 1 ≤ h'.val) fun h' => todo c h')
      ∗ ∃ W, owes (c : Thread nD τ) (owedFrom (h.val + 1) c) W) := by
  unfold St
  rw [filter_slots, bigSep_insert (not_mem_slots h), bigSep_erase (mem_slots h), filter_done, bigSep_insert (not_mem_done h)]
  rfl

/-! ## The hop -/

/-- The three operations of transfer `h`, from the state before it to the state after it, whatever else (`R`) is held. -/
theorem hop (K : Dev nD × Idx1 → ℕ) (c : Dev nD) (h : Fin 15) {n : Dev nD} {s d : Memref sig .tc .vmem S2x2x128x4x64 .bf16} {q1 q2 : DmaSem sig}
    (hn : n = nxt c) (hs : s = slotM h.castSucc) (hd : d = slotM h.succ) (hq1 : q1 = sendS h) (hq2 : q2 = recvS h)
    {hsc : (d : Memref sig (Dev.tc n : Thread nD τ).2.kind .vmem S2x2x128x4x64 .bf16).view.ref.isScScratch = false}
    {hsrc : s.view.WordExact} {hdst : d.view.WordExact}
    {hsem : DmaTarget.Typed .vmem (.dma q2) (.remote (Dev.tc n : Thread nD τ) (d : Memref sig (Dev.tc n : Thread nD τ).2.kind .vmem S2x2x128x4x64 .bf16) (.dma q1) hsc)}
    {h1 : d.view.WordExact} {h2 : s.view.WordExact} {h3 : s.view.WordExact} {h4 : d.view.WordExact}
    {α : Type} {Q : α → sProp 𝕄} {k : PUnit → Prog (TpuEff nD τ sig (Elt F) Λ₀ .tc) α} {R : sProp 𝕄}
    (hk : iprop(R ∗ env ks vs K ∗ St ks vs (h.val + 1) c) ⊢ wp frame (wpE (defs₀ (F := F)) 𝒱₀ (c : Thread nD τ) none) Set.univ (k ⟨⟩) Q) :
    iprop(R ∗ env ks vs K ∗ St ks vs h.val c) ⊢ wp frame (wpE (defs₀ (F := F)) 𝒱₀ (c : Thread nD τ) none) Set.univ
      (.op (.enqueueDma s (.remote (Dev.tc n : Thread nD τ) d (.dma q1) hsc) (.dma q2) hsrc hdst hsem) fun _ =>
        .op (.waitDma2 q1 d s h1 h2) fun _ => .op (.waitDma2 q2 s d h3 h4) k) Q := by
  subst hn hs hd hq1 hq2
  rw [St_open, St_close] at *
  unfold todo done at *
  iintro ⟨HR, #HE, ⟨Hslot, Hslots⟩, Hdone, ⟨⟨⟨%fn, Hland⟩, HtS, HtV, HaS, HaV, HcV⟩, Htodo⟩, ⟨%W, HO⟩⟩
  ihave #HIs := (inv_at (F := F) ks vs K (c, .inr (.inl h))) $$ HE
  ihave #HIv := (inv_at (F := F) ks vs K (c, .inr (.inr h))) $$ HE
  ihave #HIn := (inv_at (F := F) ks vs K (nxt c, .inr (.inr h))) $$ HE
  ihave #Hrs := (reached_at (F := F) ks vs K (c, .inr (.inl h))) $$ HE
  ihave #Hrn := (reached_at (F := F) ks vs K (nxt c, .inr (.inr h))) $$ HE
  -- the transfer starts
  iapply (Rounds.wp_send_pointsTo 𝒱₀ ER (rd (F := F) ks vs) (c : Thread nD τ) none (κ₁ := K (c, .inr (.inl h))) (κ₂ := K (nxt c, .inr (.inr h)))
    (r₁ := 0) (r₂ := 0) (d₁ := false) (d₂ := false) (fs := fullOf ks vs c) (fd := fn)
    (by rw [duties_send]; exact Finset.mem_singleton_self _) (by rw [duties_recv]; exact Finset.mem_singleton_self _)
    () () N (by exact credit_slot h.succ) (amount_send ks vs c h false) (amount_recv ks vs (nxt c) h false) (owedFrom (h.val + 1) c) (owedFrom_succ h c) (W := W)
    (by rw [payload_send]; exact BI.Entails.refl _)
    (by rw [payload_recv]; unfold slotPts; exact Entails.of_eq (pointsTo_congr (landed_eq ks vs c h fn)))) $$ [Hslot Hland HO HtS HtV]
  · isplitr; · iexact HIs
    isplitr; · iexact HIn
    isplitl [Hslot]; · unfold slotPts; iexact Hslot
    isplitl [Hland]; · unfold slotPts; iexact Hland
    isplitl [HO]; · iexact HO
    isplitl [HtS]; · iexact HtS
    isplitr; · iexact Hrs
    isplitl [HtV]; · iexact HtV
    iexact Hrn
  iintro ⟨HcS, HO⟩
  -- the wait for its send: slot `h` back
  iapply (Rounds.wp_wait_rest_token 𝒱₀ ER (rd (F := F) ks vs) (c : Thread nD τ) none (κ := K (c, .inr (.inl h)))
      (wpE_waitDma2_eq 𝒱₀ (c : Thread nD τ) none Set.univ) (Set.mem_univ _) () (O := owedFrom (h.val + 1) c) (W := W) (R := 0) (m := 0) (T := ∅)
      (by exact (Nat.zero_add _).trans ((credit_slot h.castSucc).trans (expect_send ks vs c h).symm))) $$ [HcS HO HaS]
  · isplitr; · iexact HIs
    isplitl [HcS]; · iexact HcS
    isplitl [HO]; · iexact HO
    isplitr
    · iapply (mayWait_at (F := F) ks vs K c (.dma (sendS h)) (h.val + 1) (by rw [lv_send]; omega)); iexact HE
    iexact HaS
  iintro ⟨HO, HaS, -, Hpay⟩
  ihave Hslot := (Entails.of_eq (rest_send ks vs c h)) $$ Hpay
  -- the wait for the landing here: slot `h + 1`
  iapply (Rounds.wp_wait_rest_token 𝒱₀ ER (rd (F := F) ks vs) (c : Thread nD τ) none (κ := K (c, .inr (.inr h)))
      (wpE_waitDma2_eq 𝒱₀ (c : Thread nD τ) none Set.univ) (Set.mem_univ _) () (O := owedFrom (h.val + 1) c)
      (W := insert (SemLoc.dma (sendS h), ()) W) (R := 0) (m := 0) (T := ∅)
      (by exact (Nat.zero_add _).trans ((credit_slot h.succ).trans (expect_recv ks vs c h).symm))) $$ [HcV HO HaV]
  · isplitr; · iexact HIv
    isplitl [HcV]; · iexact HcV
    isplitl [HO]; · iexact HO
    isplitr
    · iapply (mayWait_at (F := F) ks vs K c (.dma (recvS h)) (h.val + 1) (by rw [lv_recv]; omega)); iexact HE
    iexact HaV
  iintro ⟨HO, HaV, -, Hpay⟩
  ihave Hnew := (Entails.of_eq (rest_recv ks vs c h)) $$ Hpay
  -- both cells close
  imod (Rounds.cell_close ER (rd (F := F) ks vs) (Set.mem_univ (K (c, .inr (.inl h)))) (fun h => h) (R := 0 + 1) (duties_later ks vs (sendCell h c))) $$ [HaS] with HzS
  · isplitr; · iexact HIs
    iexact HaS
  imod (Rounds.cell_close ER (rd (F := F) ks vs) (Set.mem_univ (K (c, .inr (.inr h)))) (fun h => h) (R := 0 + 1) (duties_later ks vs (recvCell h c))) $$ [HaV] with HzV
  · isplitr; · iexact HIv
    iexact HaV
  iapply hk
  isplitl [HR]; · iexact HR
  isplitr; · iexact HE
  isplitl [Hnew Hslot Hslots]
  · isplitl [Hnew]; · iexact Hnew
    isplitl [Hslot] <;> iassumption
  isplitl [HzS HzV Hdone]
  · isplitl [HzS HzV]
    · isplitl [HzS] <;> iassumption
    iexact Hdone
  isplitl [Htodo]; · iexact Htodo
  iexists (insert (SemLoc.dma (recvS h), ()) (insert (SemLoc.dma (sendS h), ()) W))
  iexact HO

end Cert.Gather

end
-- ==== Proof.Outcome.lean ====
/-
  What one device computes from its inputs and its gathered keys and values, for any float values: the printed payloads
  composed in the order of the program (`attnOf`: the attention's 256 rows; `outOf`: the output projection of them).
-/
module

public import proofs.«01_k».proof.Proof.Ring

@[expose] public section

noncomputable section

namespace Cert.Gather

open Cert.KernelIdeal Cert.KernelIdeal.Gen

open Idealize.ShloMosaic
open Idealize.ShloMosaic.TcCoe

variable {F : FTy → Type} [FloatOps F]

/-- The contents of the gather buffer. -/
abbrev GatherC (F : FTy → Type) : Type := (cc0_scratch0 : Ref sig .tc).ty.Contents (Elt F)

/-- The part of the gather buffer one step of the attention loads: all slots, keys (`k = 0`) or values (`k = 1`), batch
    element `b`, the 64 rows from `r`, head `h`. -/
def blk (k b r h : ℕ) (inb : ∀ a, (![0, k, b, r, h, 0] : Fin 6 → Nat) a + S16x1x1x64x1x64.size a ≤ S16x2x2x128x4x64.size a)
    (g : GatherC F) : Vec F S16x1x1x64x1x64 .bf16 :=
  gkvM.view.readAt (Elt F) (Rect.unit (s := S16x2x2x128x4x64) ![0, k, b, r, h, 0] S16x1x1x64x1x64.size inb).toLoadRect g

/-- The attention's rows (batch element, row; head, column), before the output projection. -/
def attnOf (x : FVec F S2x128x512 .bf16) (wq : FVec F S512x256 .bf16) (g : GatherC F) : FVec F S256x256 .bf16 :=
  let q := k0_pay4 x wq
  let k000 := blk 0 0 0 0 inb_S16x2x2x128x4x64_S16x1x1x64x1x64_0_0_0_0_0_0 g
  let v000 := blk 1 0 0 0 inb_S16x2x2x128x4x64_S16x1x1x64x1x64_0_1_0_0_0_0 g
  let k001 := blk 0 0 0 1 inb_S16x2x2x128x4x64_S16x1x1x64x1x64_0_0_0_0_1_0 g
  let v001 := blk 1 0 0 1 inb_S16x2x2x128x4x64_S16x1x1x64x1x64_0_1_0_0_1_0 g
  let k002 := blk 0 0 0 2 inb_S16x2x2x128x4x64_S16x1x1x64x1x64_0_0_0_0_2_0 g
  let v002 := blk 1 0 0 2 inb_S16x2x2x128x4x64_S16x1x1x64x1x64_0_1_0_0_2_0 g
  let k003 := blk 0 0 0 3 inb_S16x2x2x128x4x64_S16x1x1x64x1x64_0_0_0_0_3_0 g
  let v003 := blk 1 0 0 3 inb_S16x2x2x128x4x64_S16x1x1x64x1x64_0_1_0_0_3_0 g
  let k010 := blk 0 0 64 0 inb_S16x2x2x128x4x64_S16x1x1x64x1x64_0_0_0_64_0_0 g
  let v010 := blk 1 0 64 0 inb_S16x2x2x128x4x64_S16x1x1x64x1x64_0_1_0_64_0_0 g
  let k011 := blk 0 0 64 1 inb_S16x2x2x128x4x64_S16x1x1x64x1x64_0_0_0_64_1_0 g
  let v011 := blk 1 0 64 1 inb_S16x2x2x128x4x64_S16x1x1x64x1x64_0_1_0_64_1_0 g
  let k012 := blk 0 0 64 2 inb_S16x2x2x128x4x64_S16x1x1x64x1x64_0_0_0_64_2_0 g
  let v012 := blk 1 0 64 2 inb_S16x2x2x128x4x64_S16x1x1x64x1x64_0_1_0_64_2_0 g
  let k013 := blk 0 0 64 3 inb_S16x2x2x128x4x64_S16x1x1x64x1x64_0_0_0_64_3_0 g
  let v013 := blk 1 0 64 3 inb_S16x2x2x128x4x64_S16x1x1x64x1x64_0_1_0_64_3_0 g
  let k100 := blk 0 1 0 0 inb_S16x2x2x128x4x64_S16x1x1x64x1x64_0_0_1_0_0_0 g
  let v100 := blk 1 1 0 0 inb_S16x2x2x128x4x64_S16x1x1x64x1x64_0_1_1_0_0_0 g
  let k101 := blk 0 1 0 1 inb_S16x2x2x128x4x64_S16x1x1x64x1x64_0_0_1_0_1_0 g
  let v101 := blk 1 1 0 1 inb_S16x2x2x128x4x64_S16x1x1x64x1x64_0_1_1_0_1_0 g
  let k102 := blk 0 1 0 2 inb_S16x2x2x128x4x64_S16x1x1x64x1x64_0_0_1_0_2_0 g
  let v102 := blk 1 1 0 2 inb_S16x2x2x128x4x64_S16x1x1x64x1x64_0_1_1_0_2_0 g
  let k103 := blk 0 1 0 3 inb_S16x2x2x128x4x64_S16x1x1x64x1x64_0_0_1_0_3_0 g
  let v103 := blk 1 1 0 3 inb_S16x2x2x128x4x64_S16x1x1x64x1x64_0_1_1_0_3_0 g
  let k110 := blk 0 1 64 0 inb_S16x2x2x128x4x64_S16x1x1x64x1x64_0_0_1_64_0_0 g
  let v110 := blk 1 1 64 0 inb_S16x2x2x128x4x64_S16x1x1x64x1x64_0_1_1_64_0_0 g
  let k111 := blk 0 1 64 1 inb_S16x2x2x128x4x64_S16x1x1x64x1x64_0_0_1_64_1_0 g
  let v111 := blk 1 1 64 1 inb_S16x2x2x128x4x64_S16x1x1x64x1x64_0_1_1_64_1_0 g
  let k112 := blk 0 1 64 2 inb_S16x2x2x128x4x64_S16x1x1x64x1x64_0_0_1_64_2_0 g
  let v112 := blk 1 1 64 2 inb_S16x2x2x128x4x64_S16x1x1x64x1x64_0_1_1_64_2_0 g
  let k113 := blk 0 1 64 3 inb_S16x2x2x128x4x64_S16x1x1x64x1x64_0_0_1_64_3_0 g
  let v113 := blk 1 1 64 3 inb_S16x2x2x128x4x64_S16x1x1x64x1x64_0_1_1_64_3_0 g
  k0_pay38
    (k0_pay11 q (k0_pay5 x wq k000 v000) (k0_pay8 (k0_pay6 x wq) (k0_pay7 k001) v001) (k0_pay9 v002) (k0_pay10 q k002) k003 v003)
    (k0_pay23 (k0_pay14 (k0_pay12 q) (k0_pay13 k010) v010) (k0_pay18 (k0_pay16 q k011) (k0_pay17 q k011 v011)) (k0_pay19 q k012 v012)
      (k0_pay20 q) (k0_pay21 k013) (k0_pay22 v013) (constant S64x1024 .f32 0x00000000#32))
    (k0_pay29 q (k0_pay24 q k100 v100) (k0_pay26 (k0_pay25 q) k101 v101) (k0_pay27 v102) (k0_pay28 q k102) k103 v103)
    (k0_pay31 (k0_pay30 q) k110 v110) (k0_pay34 (k0_pay32 v111) (k0_pay33 q k111)) (k0_pay35 q k112 v112) (k0_pay36 q) (k0_pay37 k113) v113

/-- The device's result: those rows times the output weights. -/
def outOf (x : FVec F S2x128x512 .bf16) (wq : FVec F S512x256 .bf16) (g : GatherC F) (wo : FVec F S256x512 .bf16) : FVec F S2x128x512 .f32 :=
  k0_pay1 (attnOf x wq g) wo

end Cert.Gather

end
-- ==== Proof.Body.lean ====
/-
  The launch on one device, for any float values: the whole gather buffer as its sixteen slots and back, the devices the
  program's own address arithmetic names, the state of the device into the first transfer and out of the last, and the data
  the run is described by (what is staged, the buffer's final contents, the result, the protocol state before and after).
-/
module

public import proofs.«01_k».proof.Proof.Hop
public import proofs.«01_k».proof.Proof.Outcome

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The gather buffer as its slots -/

variable (c : Dev nD)

omit [FloatOps F] in
/-- The whole gather buffer is its sixteen slots. -/
theorem whole_slots (f : GatherC F) :
    ((((c : Thread nD τ).loc cc0_scratch0) ↦{fullShare} f : sProp 𝕄)) = bigSep Finset.univ fun g : Fin 16 => slotPts c g f := by
  have h := pointsTo_biUnion (ℓ := ((c : Thread nD τ).loc cc0_scratch0)) (q := fullShare) (f := f) (Ix := Unit) (Name := ℕ) (U := UU) (Lvl := ℕ)
    (Finset.univ : Finset (Fin 16)) slotSet (fun g _ g' _ h => slotSet_disjoint h)
  rw [biUnion_slotSet] at h
  exact h

/-- Slot 0 and the fifteen landing slots. -/
theorem bigSep_slots (Φ : Fin 16 → sProp 𝕄) :
    bigSep Finset.univ Φ = iprop(Φ 0 ∗ bigSep Finset.univ fun h : Fin 15 => Φ h.succ) := by
  rw [bigSep_erase (Finset.mem_univ (0 : Fin 16)),
    show (Finset.univ.erase (0 : Fin 16)) = Finset.univ.map (Fin.succEmb 15) from by decide, bigSep_map]
  rfl

omit [FloatOps F] in
/-- The fifteen landing slots, handed to the device before. -/
theorem barPay_intro (f : GatherC F) : (bigSep Finset.univ fun h : Fin 15 => slotPts c h.succ f) ⊢ (barPay (prv c) : sProp 𝕄) := by
  unfold barPay
  rw [nxt_prv]
  exact bigSep_mono fun h _ => show (slotPts c h.succ f : sProp 𝕄) ⊢ iprop(∃ f, slotPts c h.succ f) from by
    iintro H; iexists f; iexact H

/-! ## The devices the program addresses -/

theorem dev1_eq : (⟨k0_dev1 c, k0_dev1_lt c⟩ : Dev nD) = prv c := by revert c; decide
theorem dev2_eq : (⟨k0_dev2 c, k0_dev2_lt c⟩ : Dev nD) = nxt c := by revert c; decide
theorem dev3_eq : (⟨k0_dev3 c, k0_dev3_lt c⟩ : Dev nD) = nxt c := by revert c; decide
theorem dev4_eq : (⟨k0_dev4 c, k0_dev4_lt c⟩ : Dev nD) = nxt c := by revert c; decide
theorem dev5_eq : (⟨k0_dev5 c, k0_dev5_lt c⟩ : Dev nD) = nxt c := by revert c; decide
theorem dev6_eq : (⟨k0_dev6 c, k0_dev6_lt c⟩ : Dev nD) = nxt c := by revert c; decide
theorem dev7_eq : (⟨k0_dev7 c, k0_dev7_lt c⟩ : Dev nD) = nxt c := by revert c; decide
theorem dev8_eq : (⟨k0_dev8 c, k0_dev8_lt c⟩ : Dev nD) = nxt c := by revert c; decide
theorem dev9_eq : (⟨k0_dev9 c, k0_dev9_lt c⟩ : Dev nD) = nxt c := by revert c; decide
theorem dev10_eq : (⟨k0_dev10 c, k0_dev10_lt c⟩ : Dev nD) = nxt c := by revert c; decide
theorem dev11_eq : (⟨k0_dev11 c, k0_dev11_lt c⟩ : Dev nD) = nxt c := by revert c; decide
theorem dev12_eq : (⟨k0_dev12 c, k0_dev12_lt c⟩ : Dev nD) = nxt c := by revert c; decide
theorem dev13_eq : (⟨k0_dev13 c, k0_dev13_lt c⟩ : Dev nD) = nxt c := by revert c; decide
theorem dev14_eq : (⟨k0_dev14 c, k0_dev14_lt c⟩ : Dev nD) = nxt c := by revert c; decide
theorem dev15_eq : (⟨k0_dev15 c, k0_dev15_lt c⟩ : Dev nD) = nxt c := by revert c; decide
theorem dev16_eq : (⟨k0_dev16 c, k0_dev16_lt c⟩ : Dev nD) = nxt c := by revert c; decide
theorem dev17_eq : (⟨k0_dev17 c, k0_dev17_lt c⟩ : Dev nD) = nxt c := by revert c; decide

/-! ## Into and out of the hops -/

/-- What device `c` starts with for transfer `h`: its two tokens and its two positions. -/
def own (h : Fin 15) : sProp 𝕄 :=
  iprop(dutyTok ER (sendCell h c) 0 false ∗ dutyTok ER (recvCell h (nxt c)) 0 false ∗ atPos ER (sendCell h c) 0 ∅ 0 ∗ atPos ER (recvCell h c) 0 ∅ 0)

omit [FloatOps F] in
theorem todo_at (h : Fin 15) :
    iprop((∃ f, slotPts (nxt c) h.succ f) ∗ own c h ∗ cred (tallyAt (recvCell h c) () N)) ⊢ (todo (F := F) c h : sProp 𝕄) := by
  unfold own todo
  iintro ⟨H1, ⟨H2, H3, H4, H5⟩, H6⟩
  isplitl [H1]; · iexact H1
  isplitl [H2]; · iexact H2
  isplitl [H3]; · iexact H3
  isplitl [H4]; · iexact H4
  isplitl [H5] <;> iassumption

omit [FloatOps F] in
theorem todo_intro :
    iprop(barPay c ∗ (bigSep Finset.univ fun h => own c h) ∗ bigSep Finset.univ fun h : Fin 15 => cred (tallyAt (recvCell h c) () N))
      ⊢ (bigSep Finset.univ fun h => todo (F := F) c h : sProp 𝕄) := by
  unfold barPay
  rw [← bigSep_sep', ← bigSep_sep']
  exact bigSep_mono fun h _ => todo_at c h

variable (ks vs : Dev nD → BlockC F)

omit [FloatOps F] in
/-- The state before the first hop: slot 0 filled, every landing slot of the next device at hand. -/
theorem St_intro (W : Waits sig Unit) :
    iprop(slotPts c 0 (fullOf ks vs c) ∗ (bigSep Finset.univ fun h => todo (F := F) c h) ∗ owes (c : Thread nD τ) (owedFrom 0 c) W)
      ⊢ St ks vs 0 c := by
  unfold St
  rw [show (Finset.univ.filter fun g : Fin 16 => g.val ≤ 0) = {0} from by decide, bigSep_singleton,
    show (Finset.univ.filter fun h : Fin 15 => h.val < 0) = ∅ from by decide, bigSep_empty,
    show (Finset.univ.filter fun h : Fin 15 => 0 ≤ h.val) = Finset.univ from by decide]
  iintro ⟨H1, H2, H3⟩
  isplitl [H1]; · iexact H1
  isplitr; · iempintro
  isplitl [H2]; · iexact H2
  iexists W; iexact H3

omit [FloatOps F] in
/-- The state after the last: the whole buffer at its final contents, every transfer's cells at zero, nothing owed. -/
theorem St_end :
    St ks vs 15 c ⊢ (iprop((((c : Thread nD τ).loc cc0_scratch0) ↦{fullShare} fullOf ks vs c) ∗ (bigSep Finset.univ fun h => done (F := F) c h)
      ∗ ∃ W, owes (c : Thread nD τ) 0 W) : sProp 𝕄) := by
  unfold St
  rw [whole_slots, show (Finset.univ.filter fun g : Fin 16 => g.val ≤ 15) = Finset.univ from by decide,
    show (Finset.univ.filter fun h : Fin 15 => h.val < 15) = Finset.univ from by decide,
    show (Finset.univ.filter fun h : Fin 15 => 15 ≤ h.val) = ∅ from by decide, bigSep_empty, owedFrom_last]
  iintro ⟨H1, H2, -, H3⟩
  isplitl [H1]; · iexact H1
  isplitl [H2] <;> iassumption

/-! ## The data of the launch -/

variable (m : (ℓ : Loc nD τ sig) → Buf (Elt F) ℓ) (ρ : Dev nD → PrngReg)

/-- What is staged on device `c`: the activations, the query weights, the keys, the values, the output weights. -/
def xAt : (cc0_stg0_0 : Ref sig .tc).ty.Contents (Elt F) := (win0_0.blk (0 : Fin 1)).view.read (Elt F) (m ((c : Thread nD τ).loc main_arg0))
def wqAt : (cc0_stg1_0 : Ref sig .tc).ty.Contents (Elt F) := (win0_1.blk (0 : Fin 1)).view.read (Elt F) (m ((c : Thread nD τ).loc main_arg1))
def ksAt : BlockC F := (win0_2.blk (0 : Fin 1)).view.read (Elt F) (m ((c : Thread nD τ).loc main_arg2))
def vsAt : BlockC F := (win0_3.blk (0 : Fin 1)).view.read (Elt F) (m ((c : Thread nD τ).loc main_arg3))
def woAt : (cc0_stg4_0 : Ref sig .tc).ty.Contents (Elt F) := (win0_4.blk (0 : Fin 1)).view.read (Elt F) (m ((c : Thread nD τ).loc main_arg4))

/-- The gather buffer of device `c` at the end, and its result. -/
def gAt : GatherC F := fullOf (fun d => ksAt d m) (fun d => vsAt d m) c
def outAt : (cc0_stg5_0 : Ref sig .tc).ty.Contents (Elt F) := outOf (xAt c m) (wqAt c m) (gAt c m) (woAt c m)

/-- The protocol's ghost state on device `c` besides the invariants: its barrier position, the two barrier tokens it pays
    with, and what it holds for each transfer. -/
def linear : sProp 𝕄 :=
  iprop(atPos ER (barCell c) 0 ∅ 0 ∗ dutyTok ER (barCell (nxt c)) 0 false ∗ dutyTok ER (barCell (prv c)) 0 true ∗ bigSep Finset.univ fun h => own c h)

def start : sProp 𝕄 :=
  iprop((∃ K, records (fun d => ksAt d m) (fun d => vsAt d m) K ∗ linear c) ∗ cred (tallyAt (barCell c) () 2)
    ∗ (bigSep Finset.univ fun h : Fin 15 => cred (tallyAt (recvCell h c) () N)) ∗ lvls)

/-- Before the body: that and the gather buffer at any contents. After it: the buffer full, every semaphore at zero. -/
def Φ₀ : sProp 𝕄 := iprop(start c m ∗ ∃ f, ((c : Thread nD τ).loc cc0_scratch0) ↦{fullShare} f)
def Φ₁ : sProp 𝕄 := iprop((((c : Thread nD τ).loc cc0_scratch0) ↦{fullShare} gAt c m) ∗ (bigSep Finset.univ fun h => done c h) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xAt c m
    | ⟨1, _⟩ => wqAt c m
    | ⟨2, _⟩ => ksAt c m
    | ⟨3, _⟩ => vsAt c m
    | ⟨4, _⟩ => woAt c m
    | ⟨5, _⟩ => outAt c m
  Φ t := match t with
    | ⟨0, _⟩ => Φ₀ c m
    | ⟨_ + 1, _⟩ => Φ₁ c m
  q _ := fullShare
  owed t := match t with
    | ⟨0, _⟩ => owed₀ c
    | ⟨_ + 1, _⟩ => 0

abbrev t₀ : Fin cfg0.N := t0_0

theorem fetch_in (w : Fin 6) (hw : w ≠ 5) : (cfg0.win w).fetch t₀ = true := by revert w; decide

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ c m ∗ (dats m 0 c).owesAt () t₀.castSucc
    ∗ (∃ d, stg c cc0_stg0_0 ((dats m 0 c).before (0 : Fin 6) t₀ d)) ∗ (∃ d, stg c cc0_stg1_0 ((dats m 0 c).before (1 : Fin 6) t₀ d))
    ∗ (∃ d, stg c cc0_stg2_0 ((dats m 0 c).before (2 : Fin 6) t₀ d)) ∗ (∃ d, stg c cc0_stg3_0 ((dats m 0 c).before (3 : Fin 6) t₀ d))
    ∗ (∃ d, stg c cc0_stg4_0 ((dats m 0 c).before (4 : Fin 6) t₀ d)) ∗ (∃ d, stg c cc0_stg5_0 ((dats m 0 c).before (5 : Fin 6) t₀ d)))

def bodyPost : sProp 𝕄 :=
  iprop(Φ₁ c m ∗ (dats m 0 c).owesAt () t₀.succ ∗ stg c cc0_stg0_0 (xAt c m) ∗ stg c cc0_stg1_0 (wqAt c m) ∗ stg c cc0_stg2_0 (ksAt c m)
    ∗ stg c cc0_stg3_0 (vsAt c m) ∗ stg c cc0_stg4_0 (woAt c m) ∗ stg c cc0_stg5_0 (outAt c m))

end Cert.Gather

end
-- ==== Proof.Sound.lean ====
/-
  The body of the kernel on one device, for any float values.

  `sound_body`: run once at a device `c`, from what the launch deals it to its result array at `outOf` of its inputs and of
  the gathered blocks, the gather buffer full, every semaphore back at zero and nothing owed.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD) (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem keyRect_sub : ((gkvM.access keyRect : View sig .tc _ _ _).set : Finset S16x2x2x128x4x64.Idx) ⊆ slotSet 0 := fun i hi =>
  mem_slotSet.mpr (Fin.ext (mem_keyRect.mp (by rw [← access_set]; exact hi)).1)
theorem valRect_sub : ((gkvM.access valRect : View sig .tc _ _ _).set : Finset S16x2x2x128x4x64.Idx) ⊆ slotSet 0 := fun i hi =>
  mem_slotSet.mpr (Fin.ext (mem_valRect.mp (by rw [← access_set]; exact hi)).1)

/-- What the body holds throughout the transfers: the staged blocks, the barrier at zero, and what is left to show. -/
def held (g : (cc0_stg5_0 : Ref sig .tc).ty.Contents (Elt F)) (Kt : PUnit → sProp 𝕄) : sProp 𝕄 :=
  iprop((((c : Thread nD τ).loc cc0_stg0_0) ↦{fullShare} xAt c m) ∗ (((c : Thread nD τ).loc cc0_stg1_0) ↦{fullShare} wqAt c m)
    ∗ (((c : Thread nD τ).loc cc0_stg2_0) ↦{fullShare} ksAt c m) ∗ (((c : Thread nD τ).loc cc0_stg3_0) ↦{fullShare} vsAt c m)
    ∗ (((c : Thread nD τ).loc cc0_stg4_0) ↦{fullShare} woAt c m) ∗ (((c : Thread nD τ).loc cc0_stg5_0) ↦{fullShare} g)
    ∗ semVal (barCell c) 0 ∗ (bodyPost c m -∗ Kt ⟨⟩))

set_option maxHeartbeats 4000000 in
set_option maxRecDepth 20000 in
/-- The body, one rule per effect up to the first transfer, a hop per transfer, then one rule per effect. -/
theorem sound_body (Kt : PUnit → sProp 𝕄) :
    iprop(bodyPre c m ∗ (bodyPost c m -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  simp only [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  unfold bodyPre Φ₀ start linear
  iintro ⟨⟨⟨⟨⟨%K, #HR, HaB, HtN, HtP, Hown⟩, HcB, HcV, #Hlv⟩, ⟨%f0, Hscr⟩⟩, Ho,
    ⟨%d0, %g0, %hg0, Hx⟩, ⟨%d1, %g1, %hg1, Hwq⟩, ⟨%d2, %g2, %hg2, Hks⟩, ⟨%d3, %g3, %hg3, Hvs⟩, ⟨%d4, %g4, %hg4, Hwo⟩, ⟨%d5, %g5, %hg5, Hout⟩⟩, Hk⟩
  have hx : g0 = xAt c m := by rw [hg0]; unfold Dat.before; rw [if_pos (fetch_in 0 (by decide))]; rfl
  have hwq : g1 = wqAt c m := by rw [hg1]; unfold Dat.before; rw [if_pos (fetch_in 1 (by decide))]; rfl
  have hks : g2 = ksAt c m := by rw [hg2]; unfold Dat.before; rw [if_pos (fetch_in 2 (by decide))]; rfl
  have hvs : g3 = vsAt c m := by rw [hg3]; unfold Dat.before; rw [if_pos (fetch_in 3 (by decide))]; rfl
  have hwo : g4 = woAt c m := by rw [hg4]; unfold Dat.before; rw [if_pos (fetch_in 4 (by decide))]; rfl
  clear hg0 hg1 hg2 hg3 hg4
  subst hx hwq hks hvs hwo
  unfold Dat.owesAt Pipeline.owesWithin
  icases Ho with ⟨%W, %hW, HO⟩
  rw [show (dats m 0 c).owed t₀.castSucc = owed₀ c from rfl]
  ihave #HE := (show iprop(records (fun d => ksAt d m) (fun d => vsAt d m) K ∗ lvls) ⊢ env (fun d => ksAt d m) (fun d => vsAt d m) K from by unfold env; exact .rfl) $$ []
  · isplitr; · iexact HR
    iexact Hlv
  ihave #HIb := (inv_at (F := F) (fun d => ksAt d m) (fun d => vsAt d m) K (c, .inl ())) $$ HE
  ihave #HIp := (inv_at (F := F) (fun d => ksAt d m) (fun d => vsAt d m) K (prv c, .inl ())) $$ HE
  ihave #HIn := (inv_at (F := F) (fun d => ksAt d m) (fun d => vsAt d m) K (nxt c, .inl ())) $$ HE
  ihave #Hrp := (reached_at (F := F) (fun d => ksAt d m) (fun d => vsAt d m) K (prv c, .inl ())) $$ HE
  ihave #Hrn := (reached_at (F := F) (fun d => ksAt d m) (fun d => vsAt d m) K (nxt c, .inl ())) $$ HE
  ihave Hsl := (Entails.of_eq ((whole_slots c f0).trans (bigSep_slots _))) $$ Hscr
  icases Hsl with ⟨Hs0, Hland⟩
  rw [dev1_eq c, dev2_eq c]
  -- the signal to the device before: it gets this device's landing slots
  unfold owed₀
  iapply (Rounds.wp_signal 𝒱₀ ER (rd (F := F) (fun d => ksAt d m) (fun d => vsAt d m)) (c : Thread nD τ) none (dst := (prv c : Thread nD τ)) (κ := K (prv c, .inl ()))
      (d := true) (by rw [duties_bar]; exact Finset.mem_univ _) ((amount_bar _ _ (prv c) true).trans (by decide)) () (owed₁ c) rfl) $$ [HO HtP Hland]
  · isplitr; · iexact HIp
    isplitl [HO]; · iexact HO
    isplitl [HtP]; · iexact HtP
    isplitl [Hland]
    · rw [payload_bar_true]; iapply (barPay_intro c f0); iexact Hland
    iexact Hrp
  iintro HO
  -- the signal to the device after
  unfold owed₁
  iapply (Rounds.wp_signal 𝒱₀ ER (rd (F := F) (fun d => ksAt d m) (fun d => vsAt d m)) (c : Thread nD τ) none (dst := (nxt c : Thread nD τ)) (κ := K (nxt c, .inl ()))
      (d := false) (by rw [duties_bar]; exact Finset.mem_univ _) ((amount_bar _ _ (nxt c) false).trans (by decide)) () (owedFrom 0 c) rfl) $$ [HO HtN]
  · isplitr; · iexact HIn
    isplitl [HO]; · iexact HO
    isplitl [HtN]; · iexact HtN
    isplitr; · rw [payload_bar_false]; iempintro
    iexact Hrn
  iintro HO
  -- the wait on its own barrier: the landing slots of the device after
  iapply (Rounds.wp_wait_rest_token 𝒱₀ ER (rd (F := F) (fun d => ksAt d m) (fun d => vsAt d m)) (c : Thread nD τ) none (κ := K (c, .inl ()))
      (wpE_semWait_eq 𝒱₀ (c : Thread nD τ) none Set.univ) (Set.mem_univ _) () (O := owedFrom 0 c) (W := W) (R := 0) (m := 0) (T := ∅)
      (by rw [expect_bar]; decide)) $$ [HcB HO HaB]
  · isplitr; · iexact HIb
    isplitl [HcB]; · iexact HcB
    isplitl [HO]; · iexact HO
    isplitr
    · iapply (mayWait_at (F := F) (fun d => ksAt d m) (fun d => vsAt d m) K c (.reg barS) 0 (show 1 < 2 + 0 by decide)); iexact HE
    iexact HaB
  iintro ⟨HO, HaB, -, Hpay⟩
  ihave Hp := (Entails.of_eq (rest_bar (F := F) (fun d => ksAt d m) (fun d => vsAt d m) c)) $$ Hpay
  icases Hp with ⟨-, Hbar⟩
  imod (Rounds.cell_close ER (rd (F := F) (fun d => ksAt d m) (fun d => vsAt d m)) (Set.mem_univ (K (c, .inl ()))) (fun h => h) (R := 0 + 1) (duties_later _ _ (barCell c))) $$ [HaB] with HzB
  · isplitr; · iexact HIb
    iexact HaB
  -- its own blocks into slot 0
  iapply (wp_load 𝒱₀ (c : Thread nD τ) none Set.univ (m := Memref.whole cc0_stg2_0) (Finset.subset_univ _)) $$ Hks; iintro Hks
  rw [show ∀ f : BlockC F, (Memref.whole cc0_stg2_0 : Memref sig .tc .vmem S2x128x4x64 .bf16).view.readAt (Elt F) (Rect.unit (s := S2x128x4x64) ![0, 0, 0, 0] S2x128x4x64.size inb_S2x128x4x64_S2x128x4x64_0_0_0_0).toLoadRect f = f
    from fun f => Memref.readAt_unit_zero (Elt F) cc0_stg2_0 hz4 _ f]
  ihave Hs := (Entails.of_eq (show slotPts c 0 f0 = ((gkvM.access keyRect).loc (c : Thread nD τ) ↦[slotSet 0]{fullShare} f0 : sProp 𝕄) from rfl)) $$ Hs0
  iapply (wp_load_rect 𝒱₀ (c : Thread nD τ) none Set.univ (m := gkvM) keyRect_sub) $$ Hs; iintro Hs
  iapply (wp_store 𝒱₀ (c : Thread nD τ) none Set.univ (m := gkvM) (r := keyRect) (Mk := Finset.univ) (by rw [View.setOn_univ]; exact keyRect_sub)) $$ Hs; iintro Hs
  iapply (wp_load 𝒱₀ (c : Thread nD τ) none Set.univ (m := Memref.whole cc0_stg3_0) (Finset.subset_univ _)) $$ Hvs; iintro Hvs
  rw [show ∀ f : BlockC F, (Memref.whole cc0_stg3_0 : Memref sig .tc .vmem S2x128x4x64 .bf16).view.readAt (Elt F) (Rect.unit (s := S2x128x4x64) ![0, 0, 0, 0] S2x128x4x64.size inb_S2x128x4x64_S2x128x4x64_0_0_0_0).toLoadRect f = f
    from fun f => Memref.readAt_unit_zero (Elt F) cc0_stg3_0 hz4 _ f]
  iapply (wp_load_rect 𝒱₀ (c : Thread nD τ) none Set.univ (m := gkvM) valRect_sub) $$ Hs; iintro Hs
  iapply (wp_store 𝒱₀ (c : Thread nD τ) none Set.univ (m := gkvM) (r := valRect) (Mk := Finset.univ) (by rw [View.setOn_univ]; exact valRect_sub)) $$ Hs; iintro Hs
  ihave Hs0 := (Entails.of_eq (pointsTo_congr (stored_eq (fun d => ksAt d m) (fun d => vsAt d m) c f0))) $$ Hs
  ihave Htodo := (todo_intro (F := F) c) $$ [Hbar Hown HcV]
  · isplitl [Hbar]; · iexact Hbar
    isplitl [Hown] <;> iassumption
  ihave HSt := (St_intro (F := F) c (fun d => ksAt d m) (fun d => vsAt d m) (insert (SemLoc.reg barS, ()) W)) $$ [Hs0 Htodo HO]
  · isplitl [Hs0]; · unfold slotPts; iexact Hs0
    isplitl [Htodo]; · iexact Htodo
    iexact HO
  -- the fifteen transfers
  ihave HF := (show iprop((((c : Thread nD τ).loc cc0_stg0_0) ↦{fullShare} xAt c m) ∗ (((c : Thread nD τ).loc cc0_stg1_0) ↦{fullShare} wqAt c m)
      ∗ (((c : Thread nD τ).loc cc0_stg2_0) ↦{fullShare} ksAt c m) ∗ (((c : Thread nD τ).loc cc0_stg3_0) ↦{fullShare} vsAt c m)
      ∗ (((c : Thread nD τ).loc cc0_stg4_0) ↦{fullShare} woAt c m) ∗ (((c : Thread nD τ).loc cc0_stg5_0) ↦{fullShare} g5)
      ∗ semVal (barCell c) 0 ∗ (bodyPost c m -∗ Kt ⟨⟩)) ⊢ held c m g5 Kt from by unfold held; exact .rfl) $$ [Hx Hwq Hks Hvs Hwo Hout HzB Hk]
  · isplitl [Hx]; · iexact Hx
    isplitl [Hwq]; · iexact Hwq
    isplitl [Hks]; · iexact Hks
    isplitl [Hvs]; · iexact Hvs
    isplitl [Hwo]; · iexact Hwo
    isplitl [Hout]; · iexact Hout
    isplitl [HzB] <;> iassumption
  ihave HA := (show iprop(held c m g5 Kt ∗ env (fun d => ksAt d m) (fun d => vsAt d m) K ∗ St (fun d => ksAt d m) (fun d => vsAt d m) (0 : Fin 15).val c) ⊢ _ from .rfl) $$ [HF HSt]
  · isplitl [HF]; · iexact HF
    isplitr; · iexact HE
    iexact HSt
  iclear HR Hlv HE HIb HIp HIn Hrp Hrn
  istop
  refine hop (fun d => ksAt d m) (fun d => vsAt d m) K c 0 (dev3_eq c) rfl rfl rfl rfl ?_
  refine hop (fun d => ksAt d m) (fun d => vsAt d m) K c 1 (dev4_eq c) rfl rfl rfl rfl ?_
  refine hop (fun d => ksAt d m) (fun d => vsAt d m) K c 2 (dev5_eq c) rfl rfl rfl rfl ?_
  refine hop (fun d => ksAt d m) (fun d => vsAt d m) K c 3 (dev6_eq c) rfl rfl rfl rfl ?_
  refine hop (fun d => ksAt d m) (fun d => vsAt d m) K c 4 (dev7_eq c) rfl rfl rfl rfl ?_
  refine hop (fun d => ksAt d m) (fun d => vsAt d m) K c 5 (dev8_eq c) rfl rfl rfl rfl ?_
  refine hop (fun d => ksAt d m) (fun d => vsAt d m) K c 6 (dev9_eq c) rfl rfl rfl rfl ?_
  refine hop (fun d => ksAt d m) (fun d => vsAt d m) K c 7 (dev10_eq c) rfl rfl rfl rfl ?_
  refine hop (fun d => ksAt d m) (fun d => vsAt d m) K c 8 (dev11_eq c) rfl rfl rfl rfl ?_
  refine hop (fun d => ksAt d m) (fun d => vsAt d m) K c 9 (dev12_eq c) rfl rfl rfl rfl ?_
  refine hop (fun d => ksAt d m) (fun d => vsAt d m) K c 10 (dev13_eq c) rfl rfl rfl rfl ?_
  refine hop (fun d => ksAt d m) (fun d => vsAt d m) K c 11 (dev14_eq c) rfl rfl rfl rfl ?_
  refine hop (fun d => ksAt d m) (fun d => vsAt d m) K c 12 (dev15_eq c) rfl rfl rfl rfl ?_
  refine hop (fun d => ksAt d m) (fun d => vsAt d m) K c 13 (dev16_eq c) rfl rfl rfl rfl ?_
  refine hop (fun d => ksAt d m) (fun d => vsAt d m) K c 14 (dev17_eq c) rfl rfl rfl rfl ?_
  -- the attention over the full buffer
  unfold held
  iintro ⟨⟨Hx, Hwq, Hks, Hvs, Hwo, Hout, HzB, Hk⟩, -, HSt⟩
  ihave HSt := (show St (fun d => ksAt d m) (fun d => vsAt d m) ((14 : Fin 15).val + 1) c ⊢ _ from St_end (F := F) c (fun d => ksAt d m) (fun d => vsAt d m)) $$ HSt
  icases HSt with ⟨Hg, Hdone, ⟨%W', HO⟩⟩
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hwq; iintro Hwq
  iterate 32 (iapply (wp_load 𝒱₀ (c : Thread nD τ) none Set.univ (m := gkvM) (Finset.subset_univ _)) $$ Hg; iintro Hg)
  iapply (wp_load 𝒱₀ (c : Thread nD τ) none Set.univ (m := Memref.whole cc0_stg4_0) (Finset.subset_univ _)) $$ Hwo; iintro Hwo
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0)
    (r := Rect.unit (s := S2x128x512) ![0, 0, 0] S2x128x512.size inb_S2x128x512_S2x128x512_0_0_0) (Mk := Finset.univ) (Finset.subset_univ _)) $$ Hout; iintro Hout
  rw [show ∀ f w : (cc0_stg5_0 : Ref sig .tc).ty.Contents (Elt F), ((Memref.whole cc0_stg5_0 : Memref sig .tc .vmem S2x128x512 .f32).access
        (Rect.unit (s := S2x128x512) ![0, 0, 0] S2x128x512.size inb_S2x128x512_S2x128x512_0_0_0) : View sig .tc _ _ _).write (Elt F) f w Finset.univ = w
      from fun f w => Memref.write_access_unit_zero_univ (Elt F) cc0_stg5_0 hz3 _ f w,
    show ∀ f : (cc0_stg0_0 : Ref sig .tc).ty.Contents (Elt F), (Memref.whole cc0_stg0_0 : Memref sig .tc .vmem S2x128x512 .bf16).view.readAt (Elt F)
        (Rect.unit (s := S2x128x512) ![0, 0, 0] S2x128x512.size inb_S2x128x512_S2x128x512_0_0_0).toLoadRect f = f
      from fun f => Memref.readAt_unit_zero (Elt F) cc0_stg0_0 hz3 _ f,
    show ∀ f : (cc0_stg1_0 : Ref sig .tc).ty.Contents (Elt F), (Memref.whole cc0_stg1_0 : Memref sig .tc .vmem S512x256 .bf16).view.readAt (Elt F)
        (Rect.unit (s := S512x256) ![0, 0] S512x256.size inb_S512x256_S512x256_0_0).toLoadRect f = f
      from fun f => Memref.readAt_unit_zero (Elt F) cc0_stg1_0 hz2 _ f,
    show ∀ f : (cc0_stg4_0 : Ref sig .tc).ty.Contents (Elt F), (Memref.whole cc0_stg4_0 : Memref sig .tc .vmem S256x512 .bf16).view.readAt (Elt F)
        (Rect.unit (s := S256x512) ![0, 0] S256x512.size inb_S256x512_S256x512_0_0).toLoadRect f = f
      from fun f => Memref.readAt_unit_zero (Elt F) cc0_stg4_0 hz2 _ f, wp_ret]
  imodintro
  iapply Hk
  unfold bodyPost Φ₁ Dat.owesAt Pipeline.owesWithin
  rw [show (dats m 0 c).owed t₀.succ = 0 from rfl]
  isplitl [Hg Hdone HzB]
  · isplitl [Hg]; · unfold gAt; iexact Hg
    isplitl [Hdone] <;> iassumption
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hks]
  · iexists _; isplitr; · (ipureintro; rfl)
    iexact Hks
  isplitl [Hvs]
  · iexists _; isplitr; · (ipureintro; rfl)
    iexact Hvs
  isplitl [Hwo]
  · iexists _; isplitr; · (ipureintro; rfl)
    iexact Hwo
  iexists _; isplitr
  swap; · iexact Hout
  ipureintro; rfl

end Cert.Gather

end
-- ==== Proof.Grant.lean ====
/-
  The launch's ghost state of the kernel on its 32 devices, for any float values.

  `body_obligation`: the body as the launch asks for it. `fund_cells`, `glob`: the cells' invariants and the tokens, dealt so
  that each device holds those it pays with.
-/
module

public import proofs.«01_k».proof.Proof.Sound

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD) (m : (ℓ : Loc nD τ sig) → Buf (Elt F) ℓ)

/-! ## The body obligation -/

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem body_obligation : BodyObligation (dats (F := F) m 0 c) (defs₀ (F := F)) 𝒱₀ () Set.univ := fun t => by
  rw [fin_N0 t]
  rw [bigSep_W, bigSep_W]
  simp only [owns_whole_eq]
  show bodyPre c m ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) cc0_scratch1 cc0_scratch2) (fun _ => bodyPost c m)
  iintro H
  iapply (sound_body c m fun _ => bodyPost c m)
  isplitl [H]; · iexact H
  iintro H; iexact H

/-! ## The launch's ghost state -/

omit [FloatOps F] in
/-- Over a sum of two index types. -/
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

theorem ownSemFacts : Pipeline.OwnSemFacts cfg0.spec osem := by decide

theorem share_eq (w : Fin cfg0.W) : (dats m 0 c).share w = fullShare := by unfold Dat.share; split <;> rfl

theorem csem_injective : Function.Injective csem := by decide

theorem kcell_injective : Function.Injective (kcell : Dev nD × Idx1 → GSem nD τ sig) := by
  rintro ⟨c, k⟩ ⟨c', k'⟩ h
  have h1 : c = c' := congrArg (fun g : GSem nD τ sig => g.1.1) h
  subst h1
  have h2 : k = k' := csem_injective (congrArg Prod.snd h)
  rw [h2]

def cells : Finset (GSem nD τ sig) := Finset.univ.map ⟨kcell, kcell_injective⟩

/-- The duties of a device's own cells: its barrier's two, one for each send and receive cell. -/
abbrev Tok1 : Type := Bool ⊕ Own
abbrev tok1 : Tok1 → SemLoc sig × Bool := fun | .inl b => (.reg barS, b) | .inr k => (osem k, false)
abbrev tokOf (cj : Dev nD × Tok1) : GSem nD τ sig × ℕ × Bool := (((cj.1 : Thread nD τ), (tok1 cj.2).1), 0, (tok1 cj.2).2)

theorem tok1_injective : Function.Injective tok1 := by decide

theorem tokOf_injective : Function.Injective (tokOf : Dev nD × Tok1 → GSem nD τ sig × ℕ × Bool) := by
  rintro ⟨c, j⟩ ⟨c', j'⟩ h
  have h1 : c = c' := congrArg (fun x : GSem nD τ sig × ℕ × Bool => x.1.1.1) h
  subst h1
  rw [tok1_injective (show tok1 j = tok1 j' from congrArg (fun x : GSem nD τ sig × ℕ × Bool => (x.1.2, x.2.2)) h)]

def mint : Finset (GSem nD τ sig × ℕ × Bool) := Finset.univ.map ⟨tokOf, tokOf_injective⟩

def u₀ : UU := (initOf (Pipeline.cells cfgs cellOf_inj) (Pipeline.launchToks cfgs cellOf_inj), initOf cells mint)

/-- The schedule at the launch's memory. -/
abbrev rdm : Rounds.Schedule (GSem nD τ sig) Bool 𝕄 := rd (fun d => ksAt d m) (fun d => vsAt d m)

/-- The duty tokens of device `c`'s own cells. -/
def toks : sProp 𝕄 := bigSep Finset.univ fun j : Tok1 => dutyTok ER (tokOf (c, j)).1 (tokOf (c, j)).2.1 (tokOf (c, j)).2.2

def G : sProp 𝕄 :=
  iprop((bigSep Finset.univ fun k : Idx1 => roundState ER (rdm m) (kcell (c, k)) 0)
    ∗ (bigSep Finset.univ fun k : Idx1 => iprop(atPos ER (kcell (c, k)) 0 ∅ 0 ∗ reached ER (kcell (c, k)) 0)) ∗ toks c)

def G' : sProp 𝕄 := iprop(∃ K, records (fun d => ksAt d m) (fun d => vsAt d m) K ∗ linear c)

omit [FloatOps F] in
theorem fund_cells : BI.own (ER (initOf cells mint)) ⊢ (|==> bigSep Finset.univ (fun c => G c m) : sProp 𝕄) := by
  have hX (Φ : GSem nD τ sig → sProp 𝕄) : bigSep cells Φ = bigSep Finset.univ fun c : Dev nD => bigSep Finset.univ fun k : Idx1 => Φ (kcell (c, k)) := by
    unfold cells; rw [bigSep_map, bigSep_univ_prod]; rfl
  have hT : bigSep mint (fun x => (dutyTok ER x.1 x.2.1 x.2.2 : sProp 𝕄)) = bigSep Finset.univ fun c : Dev nD => toks c := by
    unfold mint; rw [bigSep_map, bigSep_univ_prod]; rfl
  iintro HX
  imod (Rounds.fund ER (rdm m) cells mint) $$ HX with ⟨Hst, Hr, Hat, Htok⟩
  imodintro
  ihave Hst' := (Entails.of_eq (hX fun g => roundState ER (rdm m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq : (unscopedSems0 c : sProp 𝕄) = semVal (barCell c) 0 := by
  unfold unscopedSems0; rw [bigSep_eq_bigSepL_of_eq [SemLoc.reg barS] (by decide) (by decide)]; rfl

omit [FloatOps F] in
/-- The kernel's own semaphores are the thirty cells of the transfers. -/
theorem ownSems0_eq : (Pipeline.ownSems0 (Ix := Unit) (Name := ℕ) (U := UU) (Lvl := ℕ) (Val := Elt F) (τ := τ) osem c : sProp 𝕄)
    = bigSep Finset.univ fun h : Fin 15 => done c h := by
  unfold Pipeline.ownSems0 done
  rw [bigSep_sum, ← bigSep_sep']

omit [FloatOps F] in
theorem sems0_eq :
    iprop(Pipeline.ownSems0 (Ix := Unit) (Name := ℕ) (U := UU) (Lvl := ℕ) (Val := Elt F) (τ := τ) osem c ∗ unscopedSems0 c)
      ⊢ (bigSep Finset.univ fun k : Idx1 => semVal (kcell (c, k)) 0 : sProp 𝕄) := by
  rw [unscopedSems0_eq, bigSep_sum, bigSep_univ_of_subsingleton ()]
  unfold Pipeline.ownSems0
  iintro ⟨HS, HB⟩
  isplitl [HB]; · iexact HB
  iexact HS

omit [FloatOps F] in
theorem core_alloc :
    iprop(Pipeline.ownSems0 (Ix := Unit) (Name := ℕ) (U := UU) (Lvl := ℕ) (Val := Elt F) (τ := τ) osem c ∗ unscopedSems0 c ∗ G c m)
      ⊢ |={Set.univ}=> iprop((bigSep Finset.univ fun k => iprop(∃ κ : ℕ, cellInv ER (rdm m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Idx1 => semVal (kcell (c, k)) 0) ∗ bigSep Finset.univ fun k : Idx1 => roundState ER (rdm m) (kcell (c, k)) 0)
      ⊢ (|={Set.univ}=> bigSep Finset.univ fun k => iprop(∃ κ : ℕ, cellInv ER (rdm m) κ (kcell (c, k))) : sProp 𝕄) from by
        rw [← bigSep_sep']
        exact (bigSep_mono fun k _ => (Rounds.body_intro ER (rdm m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What device `c` pays with: the tokens dealt to it. -/
def payToks : sProp 𝕄 :=
  iprop(dutyTok ER (barCell (nxt c)) 0 false ∗ dutyTok ER (barCell (prv c)) 0 true
    ∗ (bigSep Finset.univ fun h : Fin 15 => dutyTok ER (sendCell h c) 0 false) ∗ bigSep Finset.univ fun h : Fin 15 => dutyTok ER (recvCell h (nxt c)) 0 false)

omit [FloatOps F] in
theorem toks_eq : (toks c : sProp 𝕄) = iprop((dutyTok ER (barCell c) 0 false ∗ dutyTok ER (barCell c) 0 true)
    ∗ (bigSep Finset.univ fun h : Fin 15 => dutyTok ER (sendCell h c) 0 false) ∗ bigSep Finset.univ fun h : Fin 15 => dutyTok ER (recvCell h c) 0 false) := by
  unfold toks
  rw [bigSep_sum, bigSep_sum, bigSep_univ_eq_bigSepL [false, true] (by decide) (by decide), bigSepL_cons_cons, bigSepL_singleton]
  rfl

omit [FloatOps F] in
/-- The tokens dealt around the rings. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun h : Fin 15 => (dutyTok ER (recvCell h c) 0 false : sProp 𝕄)))]
  iintro ⟨⟨H1, H2⟩, H3, H4⟩
  isplitl [H1]; · iexact H1
  isplitl [H2]; · iexact H2
  isplitl [H3]; · iexact H3
  iexact H4

omit [FloatOps F] in
theorem linear_intro : iprop((bigSep Finset.univ fun k : Idx1 => atPos ER (kcell (c, k)) 0 ∅ 0) ∗ payToks c) ⊢ (linear c : sProp 𝕄) := by
  unfold payToks linear own
  rw [bigSep_sum, bigSep_univ_of_subsingleton (), bigSep_sum, bigSep_sep', bigSep_sep', bigSep_sep']
  iintro ⟨⟨H1, H2, H3⟩, H4, H5, H6, H7⟩
  isplitl [H1]; · iexact H1
  isplitl [H4]; · iexact H4
  isplitl [H5]; · iexact H5
  isplitl [H6]; · iexact H6
  isplitl [H7]; · iexact H7
  isplitl [H2] <;> iassumption

omit [FloatOps F] in
theorem G'_intro (K : Dev nD × Idx1 → ℕ) : iprop(records (fun d => ksAt d m) (fun d => vsAt d m) K ∗ linear c) ⊢ (G' c m : sProp 𝕄) := by
  unfold G'; iintro H; iexists K; iexact H

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rdm m) κ (kcell (c, k))))
          ∗ (bigSep Finset.univ fun k => iprop(atPos ER (kcell (c, k)) 0 ∅ 0 ∗ reached ER (kcell (c, k)) 0)) ∗ toks c) : sProp 𝕄)
      ⊢ bigSep Finset.univ (fun c => G' c m) := by
  rw [bigSep_sep', bigSep_sep', ← bigSep_univ_prod (fun ck : Dev nD × Idx1 => iprop(∃ κ : ℕ, cellInv ER (rdm m) κ (kcell ck))),
    bigSep_congr (s := Finset.univ) (fun (c : Dev nD) _ => bigSep_sep' Finset.univ (fun k : Idx1 => (atPos ER (kcell (c, k)) 0 ∅ 0 : sProp 𝕄)) (fun k => reached ER (kcell (c, k)) 0)),
    bigSep_sep', ← bigSep_univ_prod (fun ck : Dev nD × Idx1 => (reached ER (kcell ck) 0 : sProp 𝕄))]
  iintro ⟨HI, ⟨Hat, #HR⟩, Htok⟩
  ihave HK := (BI.bigSep_exists_pi Finset.univ (fun (ck : Dev nD × Idx1) (κ : ℕ) => (cellInv ER (rdm m) κ (kcell ck) : sProp 𝕄))) $$ HI
  icases HK with ⟨%K, #HI⟩
  ihave Htk := (toks_around (F := F)) $$ Htok
  iapply (with_persistent (R := records (fun d => ksAt d m) (fun d => vsAt d m) K) fun c _ => G'_intro c m K)
  isplitr
  · unfold records; isplitl; · iexact HI
    iexact HR
  · iapply ((Entails.of_eq (bigSep_sep' Finset.univ (fun c : Dev nD => bigSep Finset.univ fun k : Idx1 => (atPos ER (kcell (c, k)) 0 ∅ 0 : sProp 𝕄)) payToks).symm).trans
      (bigSep_mono fun c _ => linear_intro c))
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G c m) : sProp 𝕄)
    ⊢ |={Set.univ}=> bigSep Finset.univ (fun c => G' c m) :=
  ((bigSep_mono fun c _ => core_alloc c m).trans (bigSep_fupd _ _)).trans (BI.fupd_mono (regroup m))

end Cert.Gather

end
-- ==== Proof.Run.lean ====
/-
  The run of the kernel on its 32 devices, for any float values.

  `run_main`: from any memory with every counter at zero, every weakly fair execution of the program ends, with each window's
  array at `finalA` (an input as it was, the result at `outAt`), and every semaphore counter at zero.
-/
module

public import proofs.«01_k».proof.Proof.Grant
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD) (m : (ℓ : Loc nD τ sig) → Buf (Elt F) ℓ) (ρ : Dev nD → PrngReg)

/-! ## The launch credit -/

omit [FloatOps F] in
theorem bar_eq_iff {a b : Dev nD} : Iff (barCell a = barCell b) (a = b) :=
  ⟨fun h => congrArg (fun g : GSem nD τ sig => g.1.1) h, fun h => h ▸ rfl⟩
theorem recvS_injective : Function.Injective recvS := by decide
omit [FloatOps F] in
theorem recv_eq_iff {h h' : Fin 15} {a b : Dev nD} : Iff (recvCell h a = recvCell h' b) (h = h' ∧ a = b) :=
  ⟨fun e => ⟨recvS_injective (SemLoc.dma.inj (congrArg Prod.snd e)), congrArg (fun g : GSem nD τ sig => g.1.1) e⟩,
    fun ⟨e1, e2⟩ => by rw [e1, e2]⟩
theorem bar_ne_recv {h : Fin 15} {a b : Dev nD} : barCell a ≠ recvCell h b := fun e => by
  have e2 := congrArg Prod.snd e; cases e2

theorem eq_nxt_iff {a b : Dev nD} : a = nxt b ↔ b = prv a := ⟨fun h => by rw [h, prv_nxt], fun h => by rw [h, nxt_prv]⟩

/-- Of the transfers, a barrier cell is owed nothing; -/
theorem owedFrom_bar (d c : Dev nD) : owedFrom 0 d (barCell c) () = 0 := by
  unfold owedFrom
  rw [Finset.sum_apply, Finsupp.finset_sum_apply]
  exact Finset.sum_eq_zero fun h _ => by rw [tallyAt_ne_cell bar_ne_recv]; rfl

/-- receive cell `h` of device `c` is owed a slot's credit by the device before it. -/
theorem owedFrom_recv (d c : Dev nD) (h : Fin 15) : owedFrom 0 d (recvCell h c) () = if d = prv c then N else 0 := by
  unfold owedFrom
  rw [Finset.sum_apply, Finsupp.finset_sum_apply, Finset.sum_eq_single h]
  · rw [tallyAt_apply]
    by_cases hd : d = prv c
    · rw [if_pos hd, if_pos ⟨recv_eq_iff.mpr ⟨rfl, eq_nxt_iff.mpr hd⟩, rfl⟩]
    · rw [if_neg hd, if_neg fun hh => hd (eq_nxt_iff.mp (recv_eq_iff.mp hh.1).2)]
  · intro h' _ hne
    rw [tallyAt_apply, if_neg fun hh => hne (recv_eq_iff.mp hh.1).1.symm]
  · intro hn
    exact absurd (Finset.mem_filter.mpr ⟨Finset.mem_univ h, Nat.zero_le _⟩) hn

theorem owed_bar (d c : Dev nD) : owed₀ d (barCell c) () = (if d = prv c then 1 else 0) + (if d = nxt c then 1 else 0) := by
  unfold owed₀ owed₁
  rw [Pi.add_apply, Finsupp.add_apply, Pi.add_apply, Finsupp.add_apply, owedFrom_bar, tallyAt_apply, tallyAt_apply, Nat.zero_add]
  congr 1
  · by_cases hd : d = prv c
    · rw [if_pos hd, if_pos ⟨bar_eq_iff.mpr (eq_nxt_iff.mpr hd), rfl⟩]
    · rw [if_neg hd, if_neg fun hh => hd (eq_nxt_iff.mp (bar_eq_iff.mp hh.1))]
  · by_cases hd : d = nxt c
    · rw [if_pos hd, if_pos ⟨bar_eq_iff.mpr (eq_nxt_iff.mp hd), rfl⟩]
    · rw [if_neg hd, if_neg fun hh => hd (eq_nxt_iff.mpr (bar_eq_iff.mp hh.1))]

theorem owed_recv (d c : Dev nD) (h : Fin 15) : owed₀ d (recvCell h c) () = if d = prv c then N else 0 := by
  unfold owed₀ owed₁
  rw [Pi.add_apply, Finsupp.add_apply, Pi.add_apply, Finsupp.add_apply, owedFrom_recv, tallyAt_ne_cell (fun e => bar_ne_recv e.symm),
    tallyAt_ne_cell (fun e => bar_ne_recv e.symm), Finsupp.zero_apply, Nat.add_zero, Nat.add_zero]

theorem launch_bar : tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (h : Fin 15) :
    tallyOn (recvCell h c) (launchCredit (Pipeline.owing owed₀) 0 (recvCell h c)) = (tallyAt (recvCell h c) () N : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_ite_eq' Finset.univ (prv c) fun _ => N, if_pos (Finset.mem_univ _)]

/-- The receive semaphores among all of a device's. -/
def recvEmb : Fin 15 ↪ SemLoc sig := ⟨fun h => .dma (recvS h), fun _ _ e => recvS_injective (SemLoc.dma.inj e)⟩

omit [FloatOps F] in
theorem creds : (Pipeline.launchCred owed₀ c : sProp 𝕄)
    ⊢ iprop(cred (tallyAt (barCell c) () 2) ∗ bigSep Finset.univ fun h : Fin 15 => cred (tallyAt (recvCell h c) () N)) := by
  unfold Pipeline.launchCred
  rw [bigSep_univ_at _ (SemLoc.reg barS), launch_bar]
  refine sep_mono_right ?_
  refine (bigSep_subset (t := Finset.univ.map recvEmb) fun sm hs => ?_).trans ?_
  · obtain ⟨h, -, rfl⟩ := Finset.mem_map.mp hs
    exact Finset.mem_erase.mpr ⟨fun e => (by cases e), Finset.mem_univ _⟩
  · rw [bigSep_map]
    exact bigSep_mono fun h _ => Entails.of_eq (congrArg cred (launch_recv c h))

/-! ## The side conditions of the launch -/

omit [FloatOps F] in
theorem start_intro :
    iprop(Pipeline.unscopedRestP Pipeline.Prefetch.none cfg0.spec c (fun b => m ((c : Thread nD τ).loc b)) ∗ levAts L lv
        ∗ Pipeline.launchCred owed₀ c ∗ prngReg c (ρ c) ∗ G' c m)
      ⊢ |={Set.univ}=> iprop(start c m ∗ emp) := by
  iintro ⟨-, Hlev, Hcr, -, HG⟩
  ihave Hc := (creds (F := F) c) $$ Hcr
  icases Hc with ⟨H1, HN⟩
  imodintro
  unfold start G' lvls
  isplitl
  · isplitl [HG]; · iexact HG
    isplitl [H1]; · iexact H1
    isplitl [HN]; · iexact HN
    iexact Hlev
  · iempintro

theorem phi0_intro :
    iprop(start c m ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ c m from rfl, scopedRest0_eq]
  unfold Φ₀
  iintro ⟨Hs, -, Hr⟩
  isplitl [Hs] <;> iassumption

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c m from rfl, scopedRest0_eq, ownSems0_eq, unscopedSems0_eq]
  unfold Φ₁
  iintro ⟨Hr, Hd, HzB⟩
  isplitl [HzB]; · iexact HzB
  isplitl [Hd]; · iexact Hd
  iexists (gAt c m); iexact Hr

theorem waits : (levAts L lv : sProp 𝕄) ⊢ Pipeline.cellsWaits cfgs (dats m) () 0 c :=
  Pipeline.cellsWaits_intro cfgs (dats m) () 0 c fun w s t =>
    mayWait_stage c _ (by revert s; fin_cases w <;> decide) _ (by
      rcases t with ⟨_ | _, ht⟩
      · exact Or.inl rfl
      · exact Or.inr rfl)

/-! ## The run -/

/-- What window `w`'s array holds after the run. -/
def finalA (w : Fin cfg0.W) : Buf (Elt F) ((cfg0.win w).arr.view.loc (c : Thread nD τ)) := (dats m 0 c).arrAt w cfg0.N

set_option maxRecDepth 8000 in
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA c m w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation c m) (hne := block_pos0) (harr := arr_whole0) (hstage := stage_whole0) (hshare := fun c => share_eq c m)
    (hdistinct := winFacts0.arr_inj)
    (O₀ := owed₀) (howed₀ := fun _ => rfl) (howedN := fun _ => rfl)
    (L := L) (lv := lv) (hL := L_of_ne) (hwaits := fun c => waits c m)
    (G := fun c => G c m) (G' := fun c => G' c m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := fun c => start c m) (Y := fun c => unscopedSems0 c) (Z := fun _ => iprop(emp))
    (hX := fun c => start_intro c m ρ) (hin := fun c => phi0_intro c m) (hout := fun c => phi1_exit c m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (w : Fin cfg0.W) (hw : (cfg0.win w).isOut = false) : finalA c m w = m ((cfg0.win w).arr.view.loc (c : Thread nD τ)) :=
  (dats (F := F) m 0 c).arrAt_in w hw _

end Cert.Gather

end
-- ==== Proof.Frames.lean ====
/-
  The three frames: each program ends, from any memory with every counter at zero, with its arguments as they were and every
  counter at zero again.

  The two kernels have one text, so `run_main`, which holds for any float values, serves both. The reference runs on the host
  alone.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Gather

open Idealize.ShloMosaic Idealize.SL.Sem Idealize.ShloMosaic.TcCoe

/-- The kernel's frame over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c 0).trans (finalA_in c m 0 rfl), (h.1 c 1).trans (finalA_in c m 1 rfl), (h.1 c 2).trans (finalA_in c m 2 rfl),
      (h.1 c 3).trans (finalA_in c m 3 rfl), (h.1 c 4).trans (finalA_in c m 4 rfl)⟩, h.2⟩)
    (run_main m ρ)

/-- The kernel over the extended reals. -/
theorem frame_ideal : Cert.quiescent_KernelIdeal := fun m ρ _ => frame_any m ρ

/-- The two printed kernels have the same body table; -/
theorem bodies_eq : @Cert.Kernel.defs₀ Bits _ _ = @Cert.KernelIdeal.defs₀ Bits _ _ := by
  unfold Cert.Kernel.defs₀ Cert.KernelIdeal.defs₀
  refine congrArg Defs.onTc (funext fun l => funext fun a => ?_)
  rcases l with ⟨_ | _, h⟩
  · rfl
  · exact absurd h (by omega)

/-- and so, with the pipeline's, the same table of everything they call. -/
theorem defs_eq : @Cert.Kernel.defs Bits _ _ = @Cert.KernelIdeal.defs Bits _ _ :=
  congrArg (Pipeline.defs (Cert.KernelIdeal.pcfgs (F := Bits))) bodies_eq

/-- The kernel on the machine's floats: the same run, read at the bit patterns. -/
theorem frame_kernel : Cert.quiescent_Kernel := fun m ρ _ => by
  have h := frame_any (F := Bits) m ρ
  rw [← defs_eq] at h
  exact h

/-- The reference over the extended reals. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Gather

end
-- ==== Proof.Heads.lean ====
/-
  The sixteen heads of one device are one function. The program prints the attention of every (batch element, half, head)
  apart, cut at different places; `headOf` is that attention once, and `attnOf_eq` says that the rows the device computes are
  sixteen uses of it, put side by side (heads) and one under the other (batch elements and halves).
-/
module

public import proofs.«01_k».proof.Proof.Outcome

@[expose] public section

noncomputable section

namespace Cert.Gather

open Cert.KernelIdeal Cert.KernelIdeal.Gen

open Idealize.ShloMosaic
open Idealize.ShloMosaic.TcCoe

variable {F : FTy → Type} [FloatOps F]

/-- A loaded part of the gather buffer as 1024 rows: the keys or values of 16 devices, 64 rows each. -/
def rowsOf (k : Vec F S16x1x1x64x1x64 .bf16) : FVec F S1024x64 .bf16 :=
  shapeCast S1024x64 (shapeCast S16x64x64 k shapeCasts_S16x1x1x64x1x64_S16x64x64) shapeCasts_S16x64x64_S1024x64

/-- The scaled scores of 64 query rows against 1024 keys. -/
def scoresOf (q : FVec F S64x64 .bf16) (k : Vec F S16x1x1x64x1x64 .bf16) : FVec F S64x1024 .f32 :=
  mulf (matmul dot_S64x64_S1024x64_S64x1024_1_1_0_0_n_n none q (rowsOf k) (constant S64x1024 .f32 0x00000000#32))
    (broadcast S64x1024 (Scalar.ofBits .f32 0x3E000000#32))

/-- The weights of a row before they are normalised: the exponential of the score less the row's greatest score. -/
def weightsOf (s : FVec F S64x1024 .f32) : FVec F S64x1024 .f32 :=
  exp (subf s (broadcastTo S64x1024
    (shapeCast S64x1 (multiReduction .maximumf [1] S64 s 0xFF800000#32 reduces_S64x1024_S64 (.inl rfl) rfl) shapeCasts_S64_S64x1)
    broadcasts_S64x1_S64x1024))

/-- The weighted sum of the values, divided by the sum of the weights. -/
def mixOf (p : FVec F S64x1024 .f32) (v : Vec F S16x1x1x64x1x64 .bf16) : FVec F S64x64 .f32 :=
  divf
    (matmul dot_S64x1024_S1024x64_S64x64_1_0_0_1_n_n none (truncf .bf16 p bitsLt_bf16_f32) (rowsOf v)
      (constant S64x64 .f32 0x00000000#32))
    (broadcastTo S64x64
      (shapeCast S64x1 (multiReduction .add [1] S64 p 0x00000000#32 reduces_S64x1024_S64 (.inl rfl) rfl) shapeCasts_S64_S64x1)
      broadcasts_S64x1_S64x64)

/-- The attention of one head on one block of 64 query rows. -/
def headOf (q : FVec F S64x64 .bf16) (k v : Vec F S16x1x1x64x1x64 .bf16) : FVec F S64x64 .f32 :=
  mixOf (weightsOf (scoresOf q k)) v

/-- Four heads side by side. -/
def besideOf (h : Fin 4 → FVec F S64x64 .f32) : FVec F S64x256 .f32 :=
  concatenate S64x256 1 [⟨S64x64, h 0⟩, ⟨S64x64, h 1⟩, ⟨S64x64, h 2⟩, ⟨S64x64, h 3⟩]
    concatenates_S64x64_S64x64_S64x64_S64x64_S64x256_d1

/-- Four blocks of 64 rows one under the other. -/
def underOf (h : Fin 4 → FVec F S64x256 .f32) : FVec F S256x256 .f32 :=
  concatenate S256x256 0 [⟨S64x256, h 0⟩, ⟨S64x256, h 1⟩, ⟨S64x256, h 2⟩, ⟨S64x256, h 3⟩]
    concatenates_S64x256_S64x256_S64x256_S64x256_S256x256_d0

theorem slices_in (p h : Fin 4) : S256x256.Slices ![64 * p.1, 64 * h.1] S64x64 := by
  revert p h; decide

theorem blk_in (k : Fin 2) (p h : Fin 4) (a : Fin 6) :
    (![0, k.1, p.1 / 2, 64 * (p.1 % 2), h.1, 0] : Fin 6 → Nat) a + S16x1x1x64x1x64.size a ≤ S16x2x2x128x4x64.size a := by
  revert k p h a; decide

/-- The attention of head `h` on the row block `p` (batch element `p / 2`, half `p % 2`). -/
def partOf (q : FVec F S256x256 .bf16) (g : GatherC F) (p h : Fin 4) : FVec F S64x64 .f32 :=
  headOf (extractStridedSlice S64x64 ![64 * p.1, 64 * h.1] q (slices_in p h))
    (blk 0 (p.1 / 2) (64 * (p.1 % 2)) h.1 (blk_in 0 p h) g) (blk 1 (p.1 / 2) (64 * (p.1 % 2)) h.1 (blk_in 1 p h) g)

/-- The device's attention is sixteen uses of `headOf`. -/
theorem attnOf_eq (x : FVec F S2x128x512 .bf16) (wq : FVec F S512x256 .bf16) (g : GatherC F) :
    attnOf x wq g
      = truncf .bf16 (underOf fun p => besideOf fun h => partOf (k0_pay4 x wq) g p h) bitsLt_bf16_f32 := rfl

end Cert.Gather

end
-- ==== Proof.Softmax.lean ====
/-
  Softmax on the extended reals, off any program: a row of scores that is minus infinity outside a set of keys weighs the
  values as the scores of those keys alone do, whether the weights are divided by their sum before the weighted sum
  (`plainRow`) or after it (`keptRow`).
-/
module

public import Idealize.ShloMosaic.Lib.IdealHost
public import Mathlib.Data.EReal.Operations

@[expose] public section

noncomputable section

namespace Cert.Gather

open Idealize.ShloMosaic

/-! ## Real entries -/

/-- An extended real that is neither infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) {f : ι → EReal} (h : ∀ i, IsReal (f i)) : IsReal (∑ i ∈ s, f i) :=
  Finset.sum_induction f IsReal (fun _ _ => IsReal.add) ⟨0, rfl⟩ fun i _ => h i

/-- An entry whose magnitude is below plus infinity is real. -/
theorem isReal_of_abs_lt_top {x : EReal} (h : max x (-x) < ⊤) : IsReal x := by
  induction x with
  | bot => exact absurd h (by simp)
  | coe r => exact ⟨r, rfl⟩
  | top => exact absurd h (by simp)

/-! ## Constants -/

/-- The pattern of minus infinity denotes it. -/
theorem ofBits_negInf : Ideal.ofBits .f32 0xFF800000#32 = ⊥ := by
  simp [Ideal.ofBits, Ideal.ieee]

/-- The pattern of plus infinity denotes it. -/
theorem ofBits_posInf : Ideal.ofBits .f32 0x7F800000#32 = ⊤ := by
  simp [Ideal.ofBits, Ideal.ieee]

/-- The score scale is real. -/
theorem isReal_scale : IsReal (Ideal.ofBits .f32 0x3E000000#32) := by
  simp [Ideal.ofBits, Ideal.ieee, -EReal.coe_mul]
  exact ⟨_, rfl⟩

/-! ## Rows -/

variable {ι κ : Type} [Fintype ι] [Fintype κ]

/-- The greatest entry of a row, minus infinity at least. -/
def rowMax (s : ι → EReal) : EReal := Finset.univ.fold max (Ideal.ofBits .f32 0xFF800000#32) s

theorem rowMax_eq_sup (s : ι → EReal) : rowMax s = Finset.univ.sup s := by
  unfold rowMax
  rw [ofBits_negInf]
  rfl

/-- The weight of key `j` before the weights are normalised. -/
def weight (s : ι → EReal) (j : ι) : EReal := Ideal.exp (s j - rowMax s)

/-- The weighted values summed, then divided by the sum of the weights. -/
def keptRow (s v : ι → EReal) : EReal := Ideal.div (∑ j, weight s j * v j) (∑ j, weight s j)

/-- The values weighed by the weights divided by their sum. -/
def plainRow (s v : ι → EReal) : EReal := ∑ j, v j * Ideal.div (weight s j) (∑ j, weight s j)

/-- A sum times a factor that is real and not negative is the sum of the products. -/
theorem sum_mul_real (f : ι → EReal) {c : ℝ} (hc : 0 ≤ c) : (∑ j, f j) * (c : EReal) = ∑ j, f j * (c : EReal) := by
  classical
  induction (Finset.univ : Finset ι) using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The greatest entry of a row of reals is one of them. -/
theorem rowMax_real [Nonempty ι] {s : ι → EReal} (hs : ∀ j, IsReal (s j)) : IsReal (rowMax s) := by
  rw [rowMax_eq_sup]
  obtain ⟨j, _, hj⟩ := Finset.exists_mem_eq_sup Finset.univ Finset.univ_nonempty s
  rw [hj]
  exact hs j

/-- The weights of a row of reals are positive reals. -/
theorem weight_pos [Nonempty ι] {s : ι → EReal} (hs : ∀ j, IsReal (s j)) (j : ι) : ∃ r : ℝ, 0 < r ∧ weight s j = (r : EReal) := by
  obtain ⟨a, ha⟩ := hs j
  obtain ⟨b, hb⟩ := rowMax_real hs
  refine ⟨Real.exp (a - b), Real.exp_pos _, ?_⟩
  unfold weight
  rw [ha, hb, ← EReal.coe_sub, Ideal.exp_coe]

/-- Their sum is a positive real. -/
theorem sum_weight_pos [Nonempty ι] {s : ι → EReal} (hs : ∀ j, IsReal (s j)) : ∃ r : ℝ, 0 < r ∧ ∑ j, weight s j = (r : EReal) := by
  choose w hw he using weight_pos hs
  refine ⟨∑ j, w j, Finset.sum_pos (fun j _ => hw j) Finset.univ_nonempty, ?_⟩
  rw [Finset.sum_congr rfl fun j _ => he j]
  exact (map_sum (⟨⟨((↑) : ℝ → EReal), rfl⟩, EReal.coe_add⟩ : ℝ →+ EReal) w Finset.univ).symm

section Masked

variable {S : κ → EReal} {s : ι → EReal} {φ : ι → κ} (hφ : Function.Injective φ) (hin : ∀ t, S (φ t) = s t)
  (hoff : ∀ j, j ∉ Set.range φ → S j = ⊥)
include hin hoff

/-- Minus infinity outside the keys `φ` does not move the greatest entry. -/
theorem rowMax_masked : rowMax S = rowMax s := by
  rw [rowMax_eq_sup, rowMax_eq_sup]
  refine le_antisymm (Finset.sup_le fun j _ => ?_) (Finset.sup_le fun t _ => ?_)
  · by_cases h : j ∈ Set.range φ
    · obtain ⟨t, rfl⟩ := h
      rw [hin]
      exact Finset.le_sup (f := s) (Finset.mem_univ t)
    · rw [hoff j h]
      exact bot_le
  · rw [← hin]
    exact Finset.le_sup (f := S) (Finset.mem_univ _)

theorem weight_masked_in (t : ι) : weight S (φ t) = weight s t := by
  unfold weight
  rw [rowMax_masked hin hoff, hin]

/-- The weights outside the keys are 0. -/
theorem weight_masked_off (j : κ) (h : j ∉ Set.range φ) : weight S j = 0 := by
  unfold weight
  rw [hoff j h, EReal.bot_sub, Ideal.exp_bot]

include hφ

theorem sum_weight_masked : ∑ j, weight S j = ∑ t, weight s t :=
  (Fintype.sum_of_injective φ hφ _ _ (weight_masked_off hin hoff) fun t => (weight_masked_in hin hoff t).symm).symm

/-- Masked softmax over all keys is softmax over the keys kept, for real scores there and any values. -/
theorem plainRow_masked [Nonempty ι] (hs : ∀ t, IsReal (s t)) {V : κ → EReal} {v : ι → EReal} (hv : ∀ t, V (φ t) = v t) :
    plainRow S V = keptRow s v := by
  obtain ⟨d, hd, he⟩ := sum_weight_pos hs
  unfold plainRow keptRow
  rw [sum_weight_masked hφ hin hoff, he, Ideal.div_coe hd.ne', sum_mul_real _ (one_div_pos.mpr hd).le]
  refine (Fintype.sum_of_injective φ hφ _ _ (fun j h => ?_) fun t => ?_).symm
  · rw [weight_masked_off hin hoff j h, Ideal.div_coe hd.ne', zero_mul, mul_zero]
  · rw [weight_masked_in hin hoff, hv, Ideal.div_coe hd.ne', mul_comm (v t), mul_right_comm]

end Masked

end Cert.Gather

end
-- ==== Proof.Entries.lean ====
/-
  The device's attention, entry by entry, on extended reals: each entry of a head is a row of softmax (`keptRow`) over the
  1024 gathered keys, and the 256 rows and 256 columns of the device's attention are the entries of its sixteen heads.
-/
module

public import proofs.«01_k».proof.Proof.Heads
public import proofs.«01_k».proof.Proof.Softmax
public import Idealize.ShloMosaic.Lib.Pointwise

@[expose] public section

set_option maxRecDepth 16384

noncomputable section

namespace Cert.Gather

open Cert.KernelIdeal Cert.KernelIdeal.Gen

open Idealize.ShloMosaic
open Idealize.ShloMosaic.TcCoe
open Idealize.ShloMosaic.Pointwise

/-- Row `j` of the gathered keys (or values) is row `j % 64` of slot `j / 64`. -/
theorem rowsOf_apply (k : Vec Ideal S16x1x1x64x1x64 .bf16) (j : Fin 1024) (e : Fin 64) :
    rowsOf k (ix2 j e) = k (ix6 ⟨j.1 / 64, by omega⟩ 0 0 ⟨j.1 % 64, by omega⟩ 0 e) := by
  pointwise [rowsOf]

theorem scoresOf_apply (q : FVec Ideal S64x64 .bf16) (k : Vec Ideal S16x1x1x64x1x64 .bf16) (r : Fin 64) (j : Fin 1024) :
    scoresOf q k (ix2 r j) = (∑ t : Fin 64, q (ix2 r t) * rowsOf k (ix2 j t)) * Ideal.ofBits .f32 0x3E000000#32 := by
  pointwise [scoresOf]

theorem weightsOf_apply (s : FVec Ideal S64x1024 .f32) (r : Fin 64) (j : Fin 1024) :
    weightsOf s (ix2 r j) = weight (fun t : Fin 1024 => s (ix2 r t)) j := by
  pointwise [weightsOf, weight, rowMax]

theorem mixOf_apply (p : FVec Ideal S64x1024 .f32) (v : Vec Ideal S16x1x1x64x1x64 .bf16) (r e : Fin 64) :
    mixOf p v (ix2 r e) = Ideal.div (∑ j : Fin 1024, p (ix2 r j) * rowsOf v (ix2 j e)) (∑ j : Fin 1024, p (ix2 r j)) := by
  pointwise [mixOf]

/-- An entry of a head is a row of softmax over the gathered keys. -/
theorem headOf_apply (q : FVec Ideal S64x64 .bf16) (k v : Vec Ideal S16x1x1x64x1x64 .bf16) (r e : Fin 64) :
    headOf q k v (ix2 r e)
      = keptRow
          (fun j : Fin 1024 => (∑ t : Fin 64, q (ix2 r t) * rowsOf k (ix2 j t)) * Ideal.ofBits .f32 0x3E000000#32)
          (fun j : Fin 1024 => rowsOf v (ix2 j e)) := by
  unfold headOf keptRow
  rw [mixOf_apply]
  simp only [weightsOf_apply, scoresOf_apply]

/-- Column `64 t + e` of four heads side by side is column `e` of head `t`. -/
theorem besideOf_apply (h : Fin 4 → FVec Ideal S64x64 .f32) (r : Fin 64) (t : Fin 4) (e : Fin 64) :
    besideOf h (ix2 r ⟨64 * t.1 + e.1, by omega⟩) = h t (ix2 r e) := by
  have key : ∀ (t' : Fin 4) (e' : Fin 64), t'.1 = t.1 → e'.1 = e.1 → h t' (ix2 r e') = h t (ix2 r e) := by
    intro t' e' ht he
    rw [Fin.ext ht, Fin.ext he]
  pointwise [besideOf]
  split
  · exact key 0 _ (show 0 = t.1 by omega) (show 64 * t.1 + e.1 = e.1 by omega)
  split
  · exact key 1 _ (show 1 = t.1 by omega) (show 64 * t.1 + e.1 - 64 = e.1 by omega)
  split
  · exact key 2 _ (show 2 = t.1 by omega) (show 64 * t.1 + e.1 - 64 - 64 = e.1 by omega)
  · exact key 3 _ (show 3 = t.1 by omega) (show 64 * t.1 + e.1 - 64 - 64 - 64 = e.1 by omega)

/-- Row `64 t + r` of four blocks one under the other is row `r` of block `t`. -/
theorem underOf_apply (h : Fin 4 → FVec Ideal S64x256 .f32) (t : Fin 4) (r : Fin 64) (u : Fin 256) :
    underOf h (ix2 ⟨64 * t.1 + r.1, by omega⟩ u) = h t (ix2 r u) := by
  have key : ∀ (t' : Fin 4) (r' : Fin 64), t'.1 = t.1 → r'.1 = r.1 → h t' (ix2 r' u) = h t (ix2 r u) := by
    intro t' r' ht hr
    rw [Fin.ext ht, Fin.ext hr]
  pointwise [underOf]
  split
  · exact key 0 _ (show 0 = t.1 by omega) (show 64 * t.1 + r.1 = r.1 by omega)
  split
  · exact key 1 _ (show 1 = t.1 by omega) (show 64 * t.1 + r.1 - 64 = r.1 by omega)
  split
  · exact key 2 _ (show 2 = t.1 by omega) (show 64 * t.1 + r.1 - 64 - 64 = r.1 by omega)
  · exact key 3 _ (show 3 = t.1 by omega) (show 64 * t.1 + r.1 - 64 - 64 - 64 = r.1 by omega)

/-- An entry of the queries. -/
theorem query_apply (x : Vec Ideal S2x128x512 .bf16) (wq : Vec Ideal S512x256 .bf16) (b : Fin 2) (l : Fin 128) (u : Fin 256) :
    k0_pay4 x wq (ix2 ⟨b.1 * 128 + l.1, by omega⟩ u) = ∑ t : Fin 512, x (ix3 b l t) * wq (ix2 t u) := by
  pointwise [k0_pay4]

/-- An entry of the result: the output projection. -/
theorem project_apply (a : FVec Ideal S256x256 .bf16) (wo : Vec Ideal S256x512 .bf16) (b : Fin 2) (l : Fin 128) (n : Fin 512) :
    k0_pay1 a wo (ix3 b l n) = ∑ u : Fin 256, a (ix2 ⟨b.1 * 128 + l.1, by omega⟩ u) * wo (ix2 u n) := by
  pointwise [k0_pay1]

theorem blk_apply (k : Fin 2) (p h : Fin 4) (g : GatherC Ideal) (s : Fin 16) (r e : Fin 64) :
    blk k.1 (p.1 / 2) (64 * (p.1 % 2)) h.1 (blk_in k p h) g (ix6 s 0 0 r 0 e)
      = g (ix6 s k ⟨p.1 / 2, by omega⟩ ⟨64 * (p.1 % 2) + r.1, by omega⟩ h e) := by
  show g _ = g _
  congr 1
  funext a
  fin_cases a
  · exact Fin.ext (show 0 + 1 * s.1 = s.1 by omega)
  · exact Fin.ext (show k.1 + 1 * 0 = k.1 by omega)
  · exact Fin.ext (show p.1 / 2 + 1 * 0 = p.1 / 2 by omega)
  · exact Fin.ext (show 64 * (p.1 % 2) + 1 * r.1 = 64 * (p.1 % 2) + r.1 by omega)
  · exact Fin.ext (show h.1 + 1 * 0 = h.1 by omega)
  · exact Fin.ext (show 0 + 1 * e.1 = e.1 by omega)

/-- Row `64 p + r`, column `64 h + e` of the device's attention: the query row against the gathered keys of head `h` in batch
    element `p / 2`, half `p % 2`, and the values there. -/
theorem attnOf_apply (x : Vec Ideal S2x128x512 .bf16) (wq : Vec Ideal S512x256 .bf16) (g : GatherC Ideal) (p h : Fin 4) (r e : Fin 64) :
    attnOf (F := Ideal) x wq g (ix2 ⟨64 * p.1 + r.1, by omega⟩ ⟨64 * h.1 + e.1, by omega⟩)
      = keptRow
          (fun j : Fin 1024 =>
            (∑ t : Fin 64, k0_pay4 (F := Ideal) x wq (ix2 ⟨64 * p.1 + r.1, by omega⟩ ⟨64 * h.1 + t.1, by omega⟩)
              * g (ix6 ⟨j.1 / 64, by omega⟩ 0 ⟨p.1 / 2, by omega⟩ ⟨64 * (p.1 % 2) + j.1 % 64, by omega⟩ h t))
              * Ideal.ofBits .f32 0x3E000000#32)
          (fun j : Fin 1024 => g (ix6 ⟨j.1 / 64, by omega⟩ 1 ⟨p.1 / 2, by omega⟩ ⟨64 * (p.1 % 2) + j.1 % 64, by omega⟩ h e)) := by
  rw [attnOf_eq]
  show underOf (fun p => besideOf fun h => partOf (k0_pay4 x wq) g p h) (ix2 _ _) = _
  rw [underOf_apply, besideOf_apply]
  unfold partOf
  rw [headOf_apply]
  have hq : ∀ t : Fin 64, extractStridedSlice S64x64 ![64 * p.1, 64 * h.1] (k0_pay4 (F := Ideal) x wq) (slices_in p h) (ix2 r t)
      = k0_pay4 (F := Ideal) x wq (ix2 ⟨64 * p.1 + r.1, by omega⟩ ⟨64 * h.1 + t.1, by omega⟩) := by
    intro t
    pointwise
  have hk : ∀ (k : Fin 2) (j : Fin 1024) (t : Fin 64),
      rowsOf (blk k.1 (p.1 / 2) (64 * (p.1 % 2)) h.1 (blk_in k p h) g) (ix2 j t)
        = g (ix6 ⟨j.1 / 64, by omega⟩ k ⟨p.1 / 2, by omega⟩ ⟨64 * (p.1 % 2) + j.1 % 64, by omega⟩ h t) := by
    intro k j t
    rw [rowsOf_apply, blk_apply]
  have hk0 := hk 0
  have hk1 := hk 1
  simp only [Fin.isValue, Fin.val_zero, Fin.val_one] at hk0 hk1
  simp only [hq, hk0, hk1]

/-- An element of the gather buffer is an element of the key or value block of the device its slot names. -/
theorem fullOf_apply (ks vs : Dev nD → BlockC Ideal) (c : Dev nD) (s : Fin 16) (k : Fin 2) (b : Fin 2) (l : Fin 128) (h : Fin 4)
    (e : Fin 64) :
    fullOf ks vs c (ix6 s k b l h e)
      = if k.1 = 0 then ks (back c s.1) (ix4 b l h e) else vs (back c s.1) (ix4 b l h e) := by
  have ht : tail4 (ix6 s k b l h e) = ix4 b l h e := by
    funext a
    fin_cases a <;> rfl
  unfold fullOf
  rw [ht]
  rfl

end Cert.Gather

end
-- ==== Proof.Reference.lean ====
/-
  The reference's result as named parts: the block numbers of the rows, the mask, the scores, the weights, the attention's
  rows, the output projection. `res_eq` says that the reference's printed program computes exactly this composition.
-/
module

public import proofs.«01_k».proof.Proof.Gen.ReferenceIdeal.Run

@[expose] public section

noncomputable section

namespace Cert.Gather.Plain

open Cert.ReferenceIdeal Cert.ReferenceIdeal.Gen

open Idealize.ShloMosaic
open Idealize.ShloMosaic.TcCoe

variable {F : FTy → Type} [FloatOps F]

/-- The number 64, at every row. -/
def sixtyFour : IVec S4096 32 := broadcastInDim S4096 ![] bcast_S_S4096 (id (constantI S_ 32 64#32))

/-- The quotient of the row number by 64, rounded towards minus infinity, as it is printed. -/
def blockNo : IVec S4096 32 :=
  select
    (andi (cmpi .ne (signi (iotaInDim S4096 32 0)) (broadcastInDim S4096 ![] bcast_S_S4096 (signi (id (constantI S_ 32 64#32)))))
      (cmpi .ne (Host.remsi (iotaInDim S4096 32 0) sixtyFour) (broadcastInDim S4096 ![] bcast_S_S4096 (constantI S_ 32 0#32))))
    (subi (Host.divsi (iotaInDim S4096 32 0) sixtyFour) (broadcastInDim S4096 ![] bcast_S_S4096 (constantI S_ 32 1#32)))
    (Host.divsi (iotaInDim S4096 32 0) sixtyFour)

/-- The divisor 4, as it is printed: 1 if it is 0. -/
def four : IVec S_ 32 :=
  select (cmpi .eq (id (constantI S_ 32 4#32)) (constantI S_ 32 0#32)) (constantI S_ 32 1#32) (id (constantI S_ 32 4#32))

/-- The block numbers down a column. -/
def blockCol : IVec S4096x1 32 := broadcastInDim S4096x1 ![0] bcast_S4096_S4096x1_0 blockNo

/-- The block numbers along a row. -/
def blockRow : IVec S1x4096 32 := broadcastInDim S1x4096 ![1] bcast_S4096_S1x4096_1 blockNo

/-- The remainders by 4 of the block numbers down a column, as they are printed. -/
def remCol : IVec S4096x1 32 :=
  select
    (andi
      (cmpi .ne
        (cmpi .slt (Host.remsi blockCol (broadcastInDim S4096x1 ![] bcast_S_S4096x1 four))
          (broadcastInDim S4096x1 ![] bcast_S_S4096x1 (constantI S_ 32 0#32)))
        (broadcastInDim S4096x1 ![] bcast_S_S4096x1 (cmpi .slt four (constantI S_ 32 0#32))))
      (cmpi .ne (Host.remsi blockCol (broadcastInDim S4096x1 ![] bcast_S_S4096x1 four))
        (broadcastInDim S4096x1 ![] bcast_S_S4096x1 (constantI S_ 32 0#32))))
    (addi (Host.remsi blockCol (broadcastInDim S4096x1 ![] bcast_S_S4096x1 four)) (broadcastInDim S4096x1 ![] bcast_S_S4096x1 four))
    (Host.remsi blockCol (broadcastInDim S4096x1 ![] bcast_S_S4096x1 four))

/-- The remainders by 4 of the block numbers along a row, as they are printed. -/
def remRow : IVec S1x4096 32 :=
  select
    (andi
      (cmpi .ne
        (cmpi .slt (Host.remsi blockRow (broadcastInDim S1x4096 ![] bcast_S_S1x4096 four))
          (broadcastInDim S1x4096 ![] bcast_S_S1x4096 (constantI S_ 32 0#32)))
        (broadcastInDim S1x4096 ![] bcast_S_S1x4096 (cmpi .slt four (constantI S_ 32 0#32))))
      (cmpi .ne (Host.remsi blockRow (broadcastInDim S1x4096 ![] bcast_S_S1x4096 four))
        (broadcastInDim S1x4096 ![] bcast_S_S1x4096 (constantI S_ 32 0#32))))
    (addi (Host.remsi blockRow (broadcastInDim S1x4096 ![] bcast_S_S1x4096 four)) (broadcastInDim S1x4096 ![] bcast_S_S1x4096 four))
    (Host.remsi blockRow (broadcastInDim S1x4096 ![] bcast_S_S1x4096 four))

/-- The mask: which keys a query row attends to. -/
def mask : IVec S4096x4096 1 :=
  ori
    (cmpi .eq (broadcastInDim S4096x4096 ![0, 1] bcast_S4096x1_S4096x4096_0_1 blockCol)
      (broadcastInDim S4096x4096 ![0, 1] bcast_S1x4096_S4096x4096_0_1 blockRow))
    (cmpi .eq (broadcastInDim S4096x4096 ![0, 1] bcast_S1x4096_S4096x4096_0_1 remRow)
      (broadcastInDim S4096x4096 ![0, 1] bcast_S4096x1_S4096x4096_0_1 remCol))

/-- Whether a query row attends to any key. -/
def keep : IVec S4096 1 := Host.reduce IntOp.ori mask (constantI S_ 1 0#1) reducesTo_S4096x4096_S4096_d1 h_S_

/-- The queries. -/
def queries (x : FVec F S2x4096x512 .bf16) (wq : FVec F S512x256 .bf16) : FVec F S2x4096x4x64 .f32 :=
  shapeCast _ (Host.dotGeneral dot_S2x4096x512_S512x256_S2x4096x256_2_0_01_1_n_n none (extf .f32 x bitsLt_bf16_f32) (extf .f32 wq bitsLt_bf16_f32))
    shapeCasts_S2x4096x256_S2x4096x4x64

/-- The scaled scores, minus infinity off the mask. -/
def scores (q : FVec F S2x4096x4x64 .f32) (k : FVec F S2x4096x4x64 .bf16) : FVec F S2x4x4096x4096 .f32 :=
  select
    (broadcastInDim S2x4x4096x4096 ![0, 1, 2, 3] bcast_S1x1x4096x4096_S2x4x4096x4096_0_1_2_3
      (broadcastInDim S1x1x4096x4096 ![2, 3] bcast_S4096x4096_S1x1x4096x4096_2_3 mask))
    (mulf (Host.dotGeneral dot_S2x4096x4x64_S2x4096x4x64_S2x4x4096x4096_3_3_1_1_02_02 none q (extf .f32 k bitsLt_bf16_f32))
      (broadcastInDim S2x4x4096x4096 ![] bcast_S_S2x4x4096x4096 (constant S_ .f32 0x3E000000#32)))
    (broadcastInDim S2x4x4096x4096 ![] bcast_S_S2x4x4096x4096 (constant S_ .f32 0xFF800000#32))

/-- The greatest scores of the rows. -/
def greatest (s : FVec F S2x4x4096x4096 .f32) : FVec F S2x4x4096 .f32 :=
  Host.reduce FloatOps.maximumf s (constant S_ .f32 0xFF800000#32) reducesTo_S2x4x4096x4096_S2x4x4096_d3 h_S_

/-- The exponentials of the scores less a number per row. -/
def lowered (s : FVec F S2x4x4096x4096 .f32) (r : FVec F S2x4x4096 .f32) : FVec F S2x4x4096x4096 .f32 :=
  Host.exp (subf s (broadcastInDim S2x4x4096x4096 ![0, 1, 2, 3] bcast_S2x4x4096x1_S2x4x4096x4096_0_1_2_3
    (broadcastInDim S2x4x4096x1 ![0, 1, 2] bcast_S2x4x4096_S2x4x4096x1_0_1_2 r)))

/-- The weights before they are normalised. -/
def weights (s : FVec F S2x4x4096x4096 .f32) : FVec F S2x4x4096x4096 .f32 := lowered s (greatest s)

/-- The sums of the weights, 1 at a row that attends to nothing. -/
def sums (w : FVec F S2x4x4096x4096 .f32) : FVec F S2x4x4096x1 .f32 :=
  select
    (broadcastInDim S2x4x4096x1 ![0, 1, 2, 3] bcast_S1x1x4096x1_S2x4x4096x1_0_1_2_3
      (broadcastInDim S1x1x4096x1 ![2] bcast_S4096_S1x1x4096x1_2 keep))
    (broadcastInDim S2x4x4096x1 ![0, 1, 2] bcast_S2x4x4096_S2x4x4096x1_0_1_2
      (Host.reduceAdd w (constant S_ .f32 0x00000000#32) reducesTo_S2x4x4096x4096_S2x4x4096_d3 h_S_))
    (broadcastInDim S2x4x4096x1 ![] bcast_S_S2x4x4096x1 (constant S_ .f32 0x3F800000#32))

/-- The weights divided by a number per row, 0 at a row that attends to nothing. -/
def dividedBy (w : FVec F S2x4x4096x4096 .f32) (d : FVec F S2x4x4096x1 .f32) : FVec F S2x4x4096x4096 .f32 :=
  select
    (broadcastInDim S2x4x4096x4096 ![0, 1, 2, 3] bcast_S1x1x4096x1_S2x4x4096x4096_0_1_2_3
      (broadcastInDim S1x1x4096x1 ![2] bcast_S4096_S1x1x4096x1_2 keep))
    (Host.divf w (broadcastInDim S2x4x4096x4096 ![0, 1, 2, 3] bcast_S2x4x4096x1_S2x4x4096x4096_0_1_2_3 d))
    (broadcastInDim S2x4x4096x4096 ![] bcast_S_S2x4x4096x4096 (constant S_ .f32 0x00000000#32))

/-- The normalised weights. -/
def normed (w : FVec F S2x4x4096x4096 .f32) : FVec F S2x4x4096x4096 .f32 := dividedBy w (sums w)

/-- The attention's rows. -/
def context (n : FVec F S2x4x4096x4096 .f32) (v : FVec F S2x4096x4x64 .bf16) : FVec F S2x4096x256 .f32 :=
  shapeCast _
    (transpose S2x4096x4x64 [0, 3, 1, 2]
      (Host.dotGeneral dot_S2x4096x4x64_S2x4x4096x4096_S2x4x64x4096_1_3_3_2_02_01 none (extf .f32 v bitsLt_bf16_f32) n)
      transposes_S2x4x64x4096_S2x4096x4x64_0_3_1_2)
    shapeCasts_S2x4096x4x64_S2x4096x256

/-- The output projection of the attention's rows. -/
def project (c : FVec F S2x4096x256 .f32) (wo : FVec F S256x512 .bf16) : FVec F S2x4096x512 .f32 :=
  Host.dotGeneral dot_S2x4096x256_S256x512_S2x4096x512_2_0_01_1_n_n none c (extf .f32 wo bitsLt_bf16_f32)

/-- The reference. -/
def result (x : FVec F S2x4096x512 .bf16) (wq : FVec F S512x256 .bf16) (k v : FVec F S2x4096x4x64 .bf16)
    (wo : FVec F S256x512 .bf16) : FVec F S2x4096x512 .f32 :=
  project (context (normed (weights (scores (queries x wq) k))) v) wo

/-- The reference's printed program computes `result` of its arguments. -/
theorem res_eq (m : (ℓ : Loc nD τ sig) → Buf (Elt F) ℓ) (c : Dev nD) :
    Value.res_main_v44 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := rfl

end Cert.Gather.Plain

end
-- ==== Proof.PlainEntries.lean ====
/-
  The reference, entry by entry, on extended reals: an entry of the result is the output projection of rows of softmax over
  all 4096 keys (`plainRow`), with scores that are minus infinity off the mask. The mask keeps the keys whose 64-row block is
  that of the query modulo 4.
-/
module

public import proofs.«01_k».proof.Proof.Reference
public import proofs.«01_k».proof.Proof.Softmax
public import Idealize.ShloMosaic.Lib.Pointwise
public import Idealize.ShloMosaic.Lib.Routing.Words
public import Idealize.ShloMosaic.Lib.Routing.OpsOrder

@[expose] public section

set_option maxRecDepth 16384

noncomputable section

namespace Cert.Gather.Plain

open Cert.ReferenceIdeal Cert.ReferenceIdeal.Gen

open Idealize.ShloMosaic
open Idealize.ShloMosaic.TcCoe
open Idealize.ShloMosaic.Pointwise

theorem blockNo_apply (i : Fin 4096) : blockNo (ix1 i) = BitVec.ofNat 32 (i.1 / 64) :=
  Routing.pyDiv_ap bcast_S_S4096 (iotaInDim S4096 32 0) (id (constantI S_ 32 64#32)) (ix1 i) (a := i.1) (b := 64)
    rfl rfl (by omega) (by decide) (by decide)

theorem blockCol_apply (i : Fin 4096) (z : Fin 1) : blockCol (ix2 i z) = BitVec.ofNat 32 (i.1 / 64) := by
  rw [← blockNo_apply]
  pointwise [blockCol]

theorem blockRow_apply (i : Fin 4096) (z : Fin 1) : blockRow (ix2 z i) = BitVec.ofNat 32 (i.1 / 64) := by
  rw [← blockNo_apply]
  pointwise [blockRow]

theorem remCol_apply (i : Fin 4096) (z : Fin 1) : remCol (ix2 i z) = BitVec.ofNat 32 (i.1 / 64 % 4) :=
  Routing.pyRem_ap bcast_S_S4096x1 blockCol (id (constantI S_ 32 4#32)) (ix2 i z) (a := i.1 / 64) (b := 4)
    (blockCol_apply i z) rfl (by omega) (by decide) (by decide)

theorem remRow_apply (i : Fin 4096) (z : Fin 1) : remRow (ix2 z i) = BitVec.ofNat 32 (i.1 / 64 % 4) :=
  Routing.pyRem_ap bcast_S_S1x4096 blockRow (id (constantI S_ 32 4#32)) (ix2 z i) (a := i.1 / 64) (b := 4)
    (blockRow_apply i z) rfl (by omega) (by decide) (by decide)

/-- The mask: key `j` is kept for row `i` if their 64-row blocks are equal or equal modulo 4. -/
theorem mask_apply (i j : Fin 4096) : mask (ix2 i j) = 1#1 ↔ j.1 / 64 % 4 = i.1 / 64 % 4 := by
  have h : mask (ix2 i j) = IntOp.ori (IntOp.cmpi .eq (BitVec.ofNat 32 (i.1 / 64)) (BitVec.ofNat 32 (j.1 / 64)))
      (IntOp.cmpi .eq (BitVec.ofNat 32 (j.1 / 64 % 4)) (BitVec.ofNat 32 (i.1 / 64 % 4))) := by
    pointwise [mask]
    simp only [blockCol_apply, blockRow_apply, remCol_apply, remRow_apply]
  rw [h, WordCmp.cmpi_eq_ofNat (w := 32) (by omega) (by omega), WordCmp.cmpi_eq_ofNat (w := 32) (by omega) (by omega)]
  by_cases h0 : i.1 / 64 = j.1 / 64
  · simp [IntOp.ori, h0]
  · by_cases h1 : j.1 / 64 % 4 = i.1 / 64 % 4 <;> simp [IntOp.ori, h0, h1]

/-- Every row attends to some key: itself. -/
theorem keep_apply (i : Fin 4096) : keep (ix1 i) = 1#1 := by
  have h : keep (ix1 i) = Finset.univ.fold IntOp.ori (0#1) fun j : Fin 4096 => mask (ix2 i j) := by
    pointwise [keep]
  rw [h, Routing.fold_ori]
  exact ⟨i, Finset.mem_univ _, (mask_apply i i).mpr rfl⟩

/-- An entry of the queries. -/
theorem queries_apply (x : FVec Ideal S2x4096x512 .bf16) (wq : FVec Ideal S512x256 .bf16) (b : Fin 2) (i : Fin 4096) (h : Fin 4)
    (t : Fin 64) :
    queries x wq (ix4 b i h t) = ∑ z : Fin 512, x (ix3 b i z) * wq (ix2 z ⟨h.1 * 64 + t.1, by omega⟩) := by
  pointwise [queries]

/-- A score: the scaled product on the mask, minus infinity off it. -/
theorem scores_apply (q : FVec Ideal S2x4096x4x64 .f32) (k : FVec Ideal S2x4096x4x64 .bf16) (b : Fin 2) (h : Fin 4) (i j : Fin 4096) :
    scores q k (ix4 b h i j)
      = Scalar.select (mask (ix2 i j)) ((∑ t : Fin 64, q (ix4 b i h t) * k (ix4 b j h t)) * Ideal.ofBits .f32 0x3E000000#32)
          (Ideal.ofBits .f32 0xFF800000#32) := by
  pointwise [scores]

/-- A fold of a commutative, associative operation along the last axis. -/
theorem rowFold {α : Type} (op : α → α → α) [Std.Commutative op] [Std.Associative op] (s : S2x4x4096x4096.Idx → α) (z : S_.Idx → α)
    (b : Fin 2) (h : Fin 4) (i : Fin 4096) :
    Host.reduce op s z reducesTo_S2x4x4096x4096_S2x4x4096_d3 h_S_ (ix3 b h i)
      = Finset.univ.fold op (z (Shape.Idx.first h_S_)) fun k : Fin 4096 => s (ix4 b h i k) := by
  simp only [pointwise]

theorem greatest_apply (s : FVec Ideal S2x4x4096x4096 .f32) (b : Fin 2) (h : Fin 4) (i : Fin 4096) :
    greatest s (ix3 b h i) = rowMax fun k : Fin 4096 => s (ix4 b h i k) :=
  rowFold (FloatOps.maximumf (F := Ideal) (φ := .f32)) s (constant S_ .f32 0xFF800000#32) b h i

theorem lowered_apply (s : FVec Ideal S2x4x4096x4096 .f32) (r : FVec Ideal S2x4x4096 .f32) (b : Fin 2) (h : Fin 4) (i j : Fin 4096) :
    lowered s r (ix4 b h i j) = Ideal.exp (s (ix4 b h i j) - r (ix3 b h i)) := by
  pointwise [lowered]

theorem weights_apply (s : FVec Ideal S2x4x4096x4096 .f32) (b : Fin 2) (h : Fin 4) (i j : Fin 4096) :
    weights s (ix4 b h i j) = weight (fun k : Fin 4096 => s (ix4 b h i k)) j :=
  (lowered_apply s (greatest s) b h i j).trans
    (congrArg (fun r : EReal => Ideal.exp (s (ix4 b h i j) - r)) (greatest_apply s b h i))

/-- A selection by a set bit takes the first choice. -/
theorem select_one {α : Type} (a b : α) : Scalar.select 1#1 a b = a := rfl

/-- The rows' sums: every row attends to something. -/
theorem sums_apply (w : FVec Ideal S2x4x4096x4096 .f32) (b : Fin 2) (h : Fin 4) (i : Fin 4096) :
    sums w (ix4 b h i 0) = ∑ j : Fin 4096, w (ix4 b h i j) := by
  have e : sums w (ix4 b h i 0) = Scalar.select (keep (ix1 i)) (∑ j : Fin 4096, w (ix4 b h i j)) 1 := by
    pointwise [sums]
  rw [e, keep_apply, select_one]

theorem dividedBy_apply (w : FVec Ideal S2x4x4096x4096 .f32) (d : FVec Ideal S2x4x4096x1 .f32) (b : Fin 2) (h : Fin 4) (i j : Fin 4096) :
    dividedBy w d (ix4 b h i j) = Scalar.select (keep (ix1 i)) (Ideal.div (w (ix4 b h i j)) (d (ix4 b h i 0))) 0 := by
  pointwise [dividedBy]

/-- The normalised weights: every row attends to something. -/
theorem normed_apply (w : FVec Ideal S2x4x4096x4096 .f32) (b : Fin 2) (h : Fin 4) (i j : Fin 4096) :
    normed w (ix4 b h i j) = Ideal.div (w (ix4 b h i j)) (∑ k : Fin 4096, w (ix4 b h i k)) := by
  refine (dividedBy_apply w (sums w) b h i j).trans ?_
  rw [keep_apply, sums_apply, select_one]

theorem context_apply (n : FVec Ideal S2x4x4096x4096 .f32) (v : FVec Ideal S2x4096x4x64 .bf16) (b : Fin 2) (i : Fin 4096) (u : Fin 256) :
    context n v (ix3 b i u)
      = ∑ j : Fin 4096, v (ix4 b j ⟨u.1 / 64, by omega⟩ ⟨u.1 % 64, by omega⟩) * n (ix4 b ⟨u.1 / 64, by omega⟩ i j) := by
  pointwise [context]

theorem project_apply (a : FVec Ideal S2x4096x256 .f32) (wo : FVec Ideal S256x512 .bf16) (b : Fin 2) (i : Fin 4096) (n : Fin 512) :
    project a wo (ix3 b i n) = ∑ u : Fin 256, a (ix3 b i u) * wo (ix2 u n) := by
  pointwise [project]

/-- An entry of the reference: the output projection of rows of masked softmax. -/
theorem result_apply (x : FVec Ideal S2x4096x512 .bf16) (wq : FVec Ideal S512x256 .bf16) (k v : FVec Ideal S2x4096x4x64 .bf16)
    (wo : FVec Ideal S256x512 .bf16) (b : Fin 2) (i : Fin 4096) (n : Fin 512) :
    result x wq k v wo (ix3 b i n)
      = ∑ u : Fin 256,
          plainRow (fun j : Fin 4096 => scores (queries x wq) k (ix4 b ⟨u.1 / 64, by omega⟩ i j))
            (fun j : Fin 4096 => v (ix4 b j ⟨u.1 / 64, by omega⟩ ⟨u.1 % 64, by omega⟩))
          * wo (ix2 u n) := by
  unfold result plainRow
  rw [project_apply]
  simp only [context_apply, normed_apply, weights_apply]

end Cert.Gather.Plain

end
-- ==== Proof.Match.lean ====
/-
  The kernel's result on a device is the device's block of the reference's result, on extended reals.

  Row `l` of device `c` is row `128 c + l` of the whole arrays (`atRow`). A query row of half `s` of a block attends, in the
  kernel, to row `64 s + j % 64` of the block of the device `j / 64` steps back along the ring; `keyAt` is that key's row in
  the whole array. The 1024 rows so named are pairwise different and are the mask's rows for that query.
-/
module

public import proofs.«01_k».proof.Proof.Entries
public import proofs.«01_k».proof.Proof.PlainEntries
public import Idealize.ShloMosaic.Lib.Layout

@[expose] public section

set_option maxRecDepth 16384

noncomputable section

namespace Cert.Gather

open Cert.KernelIdeal Cert.KernelIdeal.Gen

open Idealize.ShloMosaic
open Idealize.ShloMosaic.TcCoe
open Idealize.ShloMosaic.Pointwise

/-! ## The blocks of the whole arrays -/

set_option backward.proofsInPublic true in
/-- Row `l` of device `c`'s block, in the whole array. -/
def atRow (c : Dev nD) (l : Fin 128) : Fin 4096 :=
  ⟨c.val * 128 + l.1, by have : c.val < 32 := c.isLt; omega⟩

/-- Device `c`'s block of an array of three axes; -/
def part3 {α : Type} (c : Dev nD) (v : Cert.ReferenceIdeal.S2x4096x512.Idx → α) : S2x128x512.Idx → α :=
  Layout.block ⟨3, ![2, 128, 512]⟩ ⟨3, ![2, 4096, 512]⟩ 1 32 c v

/-- of four axes. -/
def part4 {α : Type} (c : Dev nD) (v : Cert.ReferenceIdeal.S2x4096x4x64.Idx → α) : S2x128x4x64.Idx → α :=
  Layout.block ⟨4, ![2, 128, 4, 64]⟩ ⟨4, ![2, 4096, 4, 64]⟩ 1 32 c v

theorem part3_apply {α : Type} (c : Dev nD) (v : Cert.ReferenceIdeal.S2x4096x512.Idx → α) (b : Fin 2) (l : Fin 128) (n : Fin 512) :
    part3 c v (ix3 b l n) = v (ix3 b (atRow c l) n) :=
  congrArg v (funext fun a => by fin_cases a <;> rfl)

theorem part4_apply {α : Type} (c : Dev nD) (v : Cert.ReferenceIdeal.S2x4096x4x64.Idx → α) (b : Fin 2) (l : Fin 128) (h : Fin 4) (e : Fin 64) :
    part4 c v (ix4 b l h e) = v (ix4 b (atRow c l) h e) :=
  congrArg v (funext fun a => by fin_cases a <;> rfl)

/-! ## The keys a query row attends to -/

set_option backward.proofsInPublic true in
/-- The row, in the whole array, of gathered key `j` of half `s` on device `c`. -/
def keyAt (c : Dev nD) (s : Fin 2) (j : Fin 1024) : Fin 4096 :=
  atRow (back c (j.1 / 64)) ⟨64 * s.1 + j.1 % 64, by omega⟩

theorem keyAt_val (c : Dev nD) (s : Fin 2) (j : Fin 1024) :
    (keyAt c s j).1 = (c.val + 30 * (j.1 / 64)) % 32 * 128 + (64 * s.1 + j.1 % 64) := rfl

/-- Different gathered keys are different rows of the whole array. -/
theorem keyAt_injective (c : Dev nD) (s : Fin 2) : Function.Injective (keyAt c s) := by
  intro i j h
  have h := congrArg Fin.val h
  rw [keyAt_val, keyAt_val] at h
  have : c.val < 32 := c.isLt
  apply Fin.ext
  omega

/-- A gathered key is on the mask of each query row of its half. -/
theorem keyAt_mask (c : Dev nD) (l : Fin 128) (j : Fin 1024) :
    (keyAt c ⟨l.1 / 64, by omega⟩ j).1 / 64 % 4 = (atRow c l).1 / 64 % 4 := by
  show ((c.val + 30 * (j.1 / 64)) % 32 * 128 + (64 * (l.1 / 64) + j.1 % 64)) / 64 % 4 = (c.val * 128 + l.1) / 64 % 4
  have : c.val < 32 := c.isLt
  omega

/-- Every device of a ring is at most fifteen steps back from each of its devices. -/
theorem exists_back : ∀ c d : Fin 32, c.1 % 2 = d.1 % 2 → ∃ g : Fin 16, (c.1 + 30 * g.1) % 32 = d.1 := by decide

/-- Every row on the mask of a query row is that of a gathered key. -/
theorem keyAt_surj (c : Dev nD) (l : Fin 128) (i : Fin 4096) (h : i.1 / 64 % 4 = (atRow c l).1 / 64 % 4) :
    i ∈ Set.range (keyAt c ⟨l.1 / 64, by omega⟩) := by
  have hc : c.val < 32 := c.isLt
  change i.1 / 64 % 4 = (c.val * 128 + l.1) / 64 % 4 at h
  obtain ⟨g, hg⟩ := exists_back ⟨c.val, hc⟩ ⟨i.1 / 128, by omega⟩ (show c.val % 2 = i.1 / 128 % 2 by omega)
  change (c.val + 30 * g.1) % 32 = i.1 / 128 at hg
  refine ⟨⟨64 * g.1 + i.1 % 64, by omega⟩, Fin.ext ?_⟩
  rw [keyAt_val]
  show (c.val + 30 * ((64 * g.1 + i.1 % 64) / 64)) % 32 * 128 + (64 * (l.1 / 64) + (64 * g.1 + i.1 % 64) % 64) = i.1
  rw [show (64 * g.1 + i.1 % 64) / 64 = g.1 by omega, hg]
  omega

/-! ## The parts of one row of attention -/

variable (X : FVec Ideal Cert.ReferenceIdeal.S2x4096x512 .bf16) (wq : FVec Ideal S512x256 .bf16)
  (K V : FVec Ideal Cert.ReferenceIdeal.S2x4096x4x64 .bf16) (wo : FVec Ideal S256x512 .bf16) (c : Dev nD)

/-- The gather buffer of device `c`, of the blocks of the whole keys and values. -/
def gathered : GatherC Ideal := fullOf (fun d => part4 d K) (fun d => part4 d V) c

/-- The kernel's queries are the reference's, at the device's rows. -/
theorem query_eq (b : Fin 2) (l : Fin 128) (h : Fin 4) (t : Fin 64) :
    k0_pay4 (F := Ideal) (part3 c X) wq (ix2 ⟨b.1 * 128 + l.1, by omega⟩ ⟨64 * h.1 + t.1, by omega⟩)
      = Plain.queries X wq (ix4 b (atRow c l) h t) := by
  rw [query_apply, Plain.queries_apply]
  refine Finset.sum_congr rfl fun z _ => ?_
  rw [part3_apply]
  exact congrArg (fun u => X (ix3 b (atRow c l) z) * wq (ix2 z u)) (Fin.ext (by show 64 * h.1 + t.1 = h.1 * 64 + t.1; omega))

/-- A gathered key, and a gathered value, in the whole array. -/
theorem key_eq (s : Fin 2) (b : Fin 2) (j : Fin 1024) (h : Fin 4) (t : Fin 64) :
    gathered K V c (ix6 ⟨j.1 / 64, by omega⟩ 0 b ⟨64 * s.1 + j.1 % 64, by omega⟩ h t) = K (ix4 b (keyAt c s j) h t) := by
  unfold gathered
  rw [fullOf_apply]
  exact (if_pos rfl).trans (part4_apply _ _ _ _ _ _)

theorem val_eq (s : Fin 2) (b : Fin 2) (j : Fin 1024) (h : Fin 4) (t : Fin 64) :
    gathered K V c (ix6 ⟨j.1 / 64, by omega⟩ 1 b ⟨64 * s.1 + j.1 % 64, by omega⟩ h t) = V (ix4 b (keyAt c s j) h t) := by
  unfold gathered
  rw [fullOf_apply]
  exact (if_neg (show ¬ ((1 : Fin 2).1 = 0) by decide)).trans (part4_apply _ _ _ _ _ _)

/-- A score before the mask: real where the activations, the query weights and the keys are. -/
def score (b : Fin 2) (h : Fin 4) (i j : Fin 4096) : EReal :=
  (∑ t : Fin 64, Plain.queries X wq (ix4 b i h t) * K (ix4 b j h t)) * Ideal.ofBits .f32 0x3E000000#32

theorem score_real (hX : ∀ i, IsReal (X i)) (hwq : ∀ i, IsReal (wq i)) (hK : ∀ i, IsReal (K i)) (b : Fin 2) (h : Fin 4)
    (i j : Fin 4096) : IsReal (score X wq K b h i j) := by
  refine IsReal.mul (IsReal.sum _ fun t => IsReal.mul ?_ (hK _)) isReal_scale
  rw [Plain.queries_apply]
  exact IsReal.sum _ fun z => (hX _).mul (hwq _)

/-- The reference's score of a gathered key; -/
theorem score_on (b : Fin 2) (h : Fin 4) (l : Fin 128) (j : Fin 1024) :
    Plain.scores (Plain.queries X wq) K (ix4 b h (atRow c l) (keyAt c ⟨l.1 / 64, by omega⟩ j))
      = score X wq K b h (atRow c l) (keyAt c ⟨l.1 / 64, by omega⟩ j) := by
  rw [Plain.scores_apply, (Plain.mask_apply _ _).mpr (keyAt_mask c l j), Plain.select_one]
  rfl

/-- and of every other key: minus infinity. -/
theorem score_off (b : Fin 2) (h : Fin 4) (l : Fin 128) (j : Fin 4096) (hj : j ∉ Set.range (keyAt c ⟨l.1 / 64, by omega⟩)) :
    Plain.scores (Plain.queries X wq) K (ix4 b h (atRow c l) j) = ⊥ := by
  have hm : ¬ Plain.mask (ix2 (atRow c l) j) = 1#1 := fun h => hj (keyAt_surj c l j ((Plain.mask_apply _ _).mp h))
  rw [Plain.scores_apply]
  exact (if_neg hm).trans ofBits_negInf

/-! ## The result -/

/-- One row of one head: the kernel's softmax over the gathered keys is the reference's over all keys. -/
theorem row_eq (hX : ∀ i, IsReal (X i)) (hwq : ∀ i, IsReal (wq i)) (hK : ∀ i, IsReal (K i)) (b : Fin 2) (l : Fin 128) (h : Fin 4)
    (e : Fin 64) :
    attnOf (F := Ideal) (part3 c X) wq (gathered K V c) (ix2 ⟨b.1 * 128 + l.1, by omega⟩ ⟨64 * h.1 + e.1, by omega⟩)
      = plainRow (fun j : Fin 4096 => Plain.scores (Plain.queries X wq) K (ix4 b h (atRow c l) j)) (fun j : Fin 4096 => V (ix4 b j h e)) := by
  have hp : 2 * b.1 + l.1 / 64 < 4 := by omega
  have hrow : (⟨b.1 * 128 + l.1, by omega⟩ : Fin 256) = ⟨64 * (2 * b.1 + l.1 / 64) + l.1 % 64, by omega⟩ := Fin.ext (by
    show b.1 * 128 + l.1 = 64 * (2 * b.1 + l.1 / 64) + l.1 % 64; omega)
  have hb : (⟨(2 * b.1 + l.1 / 64) / 2, by omega⟩ : Fin 2) = b := Fin.ext (by show (2 * b.1 + l.1 / 64) / 2 = b.1; omega)
  have hl (j : Fin 1024) : (⟨64 * ((2 * b.1 + l.1 / 64) % 2) + j.1 % 64, by omega⟩ : Fin 128) = ⟨64 * (l.1 / 64) + j.1 % 64, by omega⟩ :=
    Fin.ext (by show 64 * ((2 * b.1 + l.1 / 64) % 2) + j.1 % 64 = 64 * (l.1 / 64) + j.1 % 64; omega)
  have hs (j : Fin 1024) : score X wq K b h (atRow c l) (keyAt c ⟨l.1 / 64, by omega⟩ j)
      = (∑ t : Fin 64, k0_pay4 (F := Ideal) (part3 c X) wq (ix2 ⟨64 * (2 * b.1 + l.1 / 64) + l.1 % 64, by omega⟩ ⟨64 * h.1 + t.1, by omega⟩)
          * gathered K V c (ix6 ⟨j.1 / 64, by omega⟩ 0 ⟨(2 * b.1 + l.1 / 64) / 2, by omega⟩
              ⟨64 * ((2 * b.1 + l.1 / 64) % 2) + j.1 % 64, by omega⟩ h t)) * Ideal.ofBits .f32 0x3E000000#32 := by
    refine congrArg (fun z : EReal => z * Ideal.ofBits .f32 0x3E000000#32) (Finset.sum_congr rfl fun t _ => ?_)
    rw [← query_eq, ← key_eq K V c ⟨l.1 / 64, by omega⟩, ← hrow, hb, hl]
  rw [hrow]
  refine (attnOf_apply (part3 c X) wq (gathered K V c) ⟨2 * b.1 + l.1 / 64, hp⟩ h ⟨l.1 % 64, by omega⟩ e).trans ?_
  refine (plainRow_masked (φ := keyAt c ⟨l.1 / 64, by omega⟩) (keyAt_injective c _)
    (fun j => (score_on X wq K c b h l j).trans (hs j)) (fun j hj => score_off X wq K c b h l j hj)
    (fun j => (hs j) ▸ score_real X wq K hX hwq hK b h _ _) fun j => ?_).symm
  · rw [← val_eq K V c ⟨l.1 / 64, by omega⟩]
    show _ = gathered K V c (ix6 _ 1 ⟨(2 * b.1 + l.1 / 64) / 2, _⟩ ⟨64 * ((2 * b.1 + l.1 / 64) % 2) + j.1 % 64, _⟩ h e)
    rw [hb, hl]

/-- The kernel's result on device `c` is that device's block of the reference's. -/
theorem out_eq (hX : ∀ i, IsReal (X i)) (hwq : ∀ i, IsReal (wq i)) (hK : ∀ i, IsReal (K i)) :
    outOf (F := Ideal) (part3 c X) wq (gathered K V c) wo = part3 c (Plain.result X wq K V wo) := by
  refine funext fun i => ?_
  obtain ⟨b, l, n, rfl⟩ : ∃ (b : Fin 2) (l : Fin 128) (n : Fin 512), i = ix3 b l n :=
    ⟨i 0, i 1, i 2, funext fun a => by fin_cases a <;> rfl⟩
  rw [part3_apply, Plain.result_apply]
  refine (project_apply _ wo b l n).trans (Finset.sum_congr rfl fun u _ => congrArg (fun z : EReal => z * wo (ix2 u n)) ?_)
  have hu : u = ⟨64 * (u.1 / 64) + u.1 % 64, by omega⟩ := Fin.ext (by show u.1 = 64 * (u.1 / 64) + u.1 % 64; omega)
  refine Eq.trans (congrArg (fun u => attnOf (F := Ideal) (part3 c X) wq (gathered K V c) (ix2 ⟨b.1 * 128 + l.1, by omega⟩ u)) hu) ?_
  exact row_eq X wq K V c hX hwq hK b l ⟨u.1 / 64, by omega⟩ ⟨u.1 % 64, by omega⟩

end Cert.Gather

end
-- ==== Proof.Value.lean ====
/-
  The value claim: on extended reals, from memories in which each device holds its blocks of the reference's arrays and the
  activations, the query weights and the keys are finite, the kernel leaves on each device that device's block of what the
  reference leaves.
-/
module

public import proofs.«01_k».proof.Defs
public import proofs.«01_k».proof.Proof.Match
public import proofs.«01_k».proof.Proof.Run
public import proofs.«01_k».proof.Proof.Gen.ReferenceIdeal.Run
public import proofs.«01_k».proof.Proof.Gen.KernelIdeal.Points
public import proofs.«01_k».proof.Proof.Gen.Pre_finite_KernelIdeal

@[expose] public section

set_option maxRecDepth 16384

noncomputable section

namespace Cert.Gather

open Cert.KernelIdeal Cert.KernelIdeal.Gen

open Idealize.ShloMosaic Idealize.SL.Sem
open Idealize.ShloMosaic.TcCoe
open Idealize.ShloMosaic.Pointwise

/-! ## What is staged and what is written back: the arrays themselves -/

section Arrays

variable {F : FTy → Type} [FloatOps F] (c : Dev nD) (m : (ℓ : Loc nD τ sig) → Buf (Elt F) ℓ)

theorem xAt_eq : xAt c m = m ((c : Thread nD τ).loc main_arg0) :=
  Memref.read_access_unit_zero (Elt F) main_arg0 (funext fun a => by fin_cases a <;> decide) (fun a => by fin_cases a <;> decide) _

theorem wqAt_eq : wqAt c m = m ((c : Thread nD τ).loc main_arg1) :=
  Memref.read_access_unit_zero (Elt F) main_arg1 (funext fun a => by fin_cases a <;> decide) (fun a => by fin_cases a <;> decide) _

theorem ksAt_eq : ksAt c m = m ((c : Thread nD τ).loc main_arg2) :=
  Memref.read_access_unit_zero (Elt F) main_arg2 (funext fun a => by fin_cases a <;> decide) (fun a => by fin_cases a <;> decide) _

theorem vsAt_eq : vsAt c m = m ((c : Thread nD τ).loc main_arg3) :=
  Memref.read_access_unit_zero (Elt F) main_arg3 (funext fun a => by fin_cases a <;> decide) (fun a => by fin_cases a <;> decide) _

theorem woAt_eq : woAt c m = m ((c : Thread nD τ).loc main_arg4) :=
  Memref.read_access_unit_zero (Elt F) main_arg4 (funext fun a => by fin_cases a <;> decide) (fun a => by fin_cases a <;> decide) _

/-- The result's array after the run holds what the device computed. -/
theorem finalA_out : finalA c m 5 = outAt c m := by
  have h : (win0_5.blk (0 : Fin 1)).view.read (Elt F) (finalA c m 5) = outAt c m := by
    have e := ((dats m 0 c).arrAt_succ 5 t₀).trans (if_pos (flush0_5 t₀))
    exact (congrArg ((win0_5.blk (0 : Fin 1)).view.read (Elt F)) e).trans (View.read_write_univ _ _)
  exact (Memref.read_access_unit_zero (Elt F) main_v1 (funext fun a => by fin_cases a <;> decide) (fun a => by fin_cases a <;> decide) _).symm.trans h

end Arrays

/-! ## The precondition -/

/-- An ordered comparison with plus infinity that holds of a magnitude says that the entry is real. -/
theorem isReal_of_cmp {x : EReal}
    (h : FloatOps.cmpf (F := Ideal) (φ := .f32) .olt (max x (-x)) (Ideal.ofBits .f32 0x7F800000#32) = 1#1) : IsReal x := by
  rw [ofBits_posInf] at h
  refine isReal_of_abs_lt_top ?_
  by_contra hn
  simp [FloatOps.cmpf, Ideal.cmp, hn] at h

variable {m : (ℓ : Loc nD τ sig) → Buf (Elt Ideal) ℓ}

theorem real_x (h : Cert.Pre_KernelIdeal_finite_KernelIdeal m) (c : Dev nD) (i : S2x128x512.Idx) :
    IsReal (m ((c : Thread nD τ).loc main_arg0) i) :=
  isReal_of_cmp (congrFun (h c).1 i)

theorem real_wq (h : Cert.Pre_KernelIdeal_finite_KernelIdeal m) (c : Dev nD) (i : S512x256.Idx) :
    IsReal (m ((c : Thread nD τ).loc main_arg1) i) :=
  isReal_of_cmp (congrFun (h c).2.1 i)

theorem real_k (h : Cert.Pre_KernelIdeal_finite_KernelIdeal m) (c : Dev nD) (i : S2x128x4x64.Idx) :
    IsReal (m ((c : Thread nD τ).loc main_arg2) i) :=
  isReal_of_cmp (congrFun (h c).2.2 i)

/-- Every row of the whole array is a row of some device's block. -/
theorem atRow_surj (i : Fin 4096) : ∃ (c : Dev nD) (l : Fin 128), i = atRow c l :=
  ⟨⟨i.1 / 128, show i.1 / 128 < 32 by omega⟩, ⟨i.1 % 128, by omega⟩, Fin.ext (show i.1 = i.1 / 128 * 128 + i.1 % 128 by omega)⟩

/-- An array all of whose blocks have real entries has real entries. -/
theorem real_of_part3 (X : FVec Ideal Cert.ReferenceIdeal.S2x4096x512 .bf16) (h : ∀ c i, IsReal (part3 c X i))
    (i : Cert.ReferenceIdeal.S2x4096x512.Idx) : IsReal (X i) := by
  obtain ⟨c, l, hi⟩ := atRow_surj (i 1)
  have e : i = ix3 (i 0) (atRow c l) (i 2) := funext fun a => by fin_cases a <;> first | rfl | exact hi
  exact e ▸ (part3_apply c X (i 0) l (i 2)) ▸ h c _

theorem real_of_part4 (K : FVec Ideal Cert.ReferenceIdeal.S2x4096x4x64 .bf16) (h : ∀ c i, IsReal (part4 c K i))
    (i : Cert.ReferenceIdeal.S2x4096x4x64.Idx) : IsReal (K i) := by
  obtain ⟨c, l, hi⟩ := atRow_surj (i 1)
  have e : i = ix4 (i 0) (atRow c l) (i 2) (i 3) := funext fun a => by fin_cases a <;> first | rfl | exact hi
  exact e ▸ (part4_apply c K (i 0) l (i 2) (i 3)) ▸ h c _

/-! ## The claim -/

/-- What a device computes when each device holds its blocks of whole arrays with real activations, query weights and keys. -/
theorem outAt_eq (X : FVec Ideal Cert.ReferenceIdeal.S2x4096x512 .bf16) (wq : FVec Ideal S512x256 .bf16)
    (K V : FVec Ideal Cert.ReferenceIdeal.S2x4096x4x64 .bf16) (wo : FVec Ideal S256x512 .bf16)
    (h : Cert.Pre_KernelIdeal_finite_KernelIdeal m)
    (h0 : ∀ c : Dev nD, m ((c : Thread nD τ).loc main_arg0) = part3 c X)
    (h1 : ∀ c : Dev nD, m ((c : Thread nD τ).loc main_arg1) = wq)
    (h2 : ∀ c : Dev nD, m ((c : Thread nD τ).loc main_arg2) = part4 c K)
    (h3 : ∀ c : Dev nD, m ((c : Thread nD τ).loc main_arg3) = part4 c V)
    (h4 : ∀ c : Dev nD, m ((c : Thread nD τ).loc main_arg4) = wo) (c : Dev nD) :
    outAt c m = part3 c (Plain.result X wq K V wo) := by
  have hk : (fun d => ksAt d m) = fun d => part4 d K := funext fun d => (ksAt_eq d m).trans (h2 d)
  have hv : (fun d => vsAt d m) = fun d => part4 d V := funext fun d => (vsAt_eq d m).trans (h3 d)
  unfold outAt gAt
  rw [hk, hv, (xAt_eq c m).trans (h0 c), (wqAt_eq c m).trans (h1 c), (woAt_eq c m).trans (h4 c)]
  exact out_eq X wq K V wo c (real_of_part3 X fun d i => congrFun (h0 d) i ▸ real_x h d i)
    (fun i => congrFun (h1 c) i ▸ real_wq h c i) (real_of_part4 K fun d i => congrFun (h2 d) i ▸ real_k h d i)

/-- The kernel computes the reference: device `c`'s result is its block of the reference's. -/
theorem algebraic : Cert.algebraic_KernelIdeal_ReferenceIdeal_pre_finite_KernelIdeal := by
  intro m ρ m' ρ' hpre hm
  refine ⟨Cert.ReferenceIdeal.Value.res_main_v44 m' 0, ?_, ?_⟩
  · refine (θ_run defs _ _).mono (fun r h c => ⟨?_, (h.1 c 0).trans (finalA_in c m 0 rfl), (h.1 c 1).trans (finalA_in c m 1 rfl),
      (h.1 c 2).trans (finalA_in c m 2 rfl), (h.1 c 3).trans (finalA_in c m 3 rfl), (h.1 c 4).trans (finalA_in c m 4 rfl)⟩) (run_main m ρ)
    refine ((h.1 c 5).trans (finalA_out c m)).trans ?_
    rw [Plain.res_eq]
    exact outAt_eq _ _ _ _ _ hpre (fun d => (hm d).1) (fun d => (hm d).2.1) (fun d => (hm d).2.2.1) (fun d => (hm d).2.2.2.1)
      (fun d => (hm d).2.2.2.2) c
  · exact (θ_run Cert.ReferenceIdeal.defs _ _).mono (fun r h => h 0) (Cert.ReferenceIdeal.Value.run m' ρ')

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim: the frames, of the kernel, of the idealized kernel and of the reference (with the precondition, which they
    do not need, and without), that the idealized kernel is the kernel's own text, and that it computes the reference. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    Cert.Gather.frame_kernel, Cert.Gather.frame_ideal, fun m ρ _ => Cert.Gather.frame_ideal m ρ trivial,
    Cert.Gather.frame_reference, fun m ρ _ => Cert.Gather.frame_reference m ρ trivial, trivial, Cert.Gather.algebraic⟩

end Cert.Proof

end
